-- ==== Defs.lean ====
def Pre_Kernel [hPre_swapped_Kernel : Cert.Pre_swapped_Kernel.Facts] (m : (ℓ : Loc Cert.Kernel.nD Cert.Kernel.τ Cert.Kernel.sig) → Buf (Elt Bits) ℓ) : Prop :=
  ∀ c : Dev Cert.Kernel.nD,
    (Cert.Pre_swapped_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_kept_Kernel [hPre_kept_Kernel : Cert.Pre_kept_Kernel.Facts] (m : (ℓ : Loc Cert.Kernel.nD Cert.Kernel.τ Cert.Kernel.sig) → Buf (Elt Bits) ℓ) : Prop :=
  ∀ c : Dev Cert.Kernel.nD,
    (Cert.Pre_kept_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swapped_Kernel : Cert.Pre_swapped_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swapped_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_kept_Kernel [hPre_kept_Kernel : Cert.Pre_kept_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_kept_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swapped_ReferenceIdeal [hPre_swapped_ReferenceIdeal : Cert.Pre_swapped_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swapped_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_kept_ReferenceIdeal [hPre_kept_ReferenceIdeal : Cert.Pre_kept_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kept_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swapped_Kernel : Cert.Pre_swapped_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_kept_Kernel [hKernel : Cert.Kernel.Facts] [hPre_kept_Kernel : Cert.Pre_kept_Kernel.Facts] : Prop :=
  ∀ (m : (ℓ : Loc Cert.Kernel.nD Cert.Kernel.τ Cert.Kernel.sig) → Buf (Elt Bits) ℓ) (g : Dev Cert.Kernel.nD → PrngReg), Pre_Kernel_kept_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_kept_Kernel [hKernelIdeal : Cert.KernelIdeal.Facts] [hPre_kept_Kernel : Cert.Pre_kept_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kept_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swapped_ReferenceIdeal [hReferenceIdeal : Cert.ReferenceIdeal.Facts] [hPre_swapped_ReferenceIdeal : Cert.Pre_swapped_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swapped_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_kept_ReferenceIdeal [hReferenceIdeal : Cert.ReferenceIdeal.Facts] [hPre_kept_ReferenceIdeal : Cert.Pre_kept_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kept_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_kept_Kernel [hKernelIdeal : Cert.KernelIdeal.Facts] [hReferenceIdeal : Cert.ReferenceIdeal.Facts] [hPre_kept_Kernel : Cert.Pre_kept_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kept_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swapped_Kernel : Cert.Pre_swapped_Kernel.Facts) (hPre_kept_Kernel : Cert.Pre_kept_Kernel.Facts) (hPre_swapped_ReferenceIdeal : Cert.Pre_swapped_ReferenceIdeal.Facts) (hPre_kept_ReferenceIdeal : Cert.Pre_kept_ReferenceIdeal.Facts),
    quiescent_Kernel (hKernel := hKernel) (hPre_swapped_Kernel := hPre_swapped_Kernel)
    ∧ quiescent_Kernel_pre_kept_Kernel (hKernel := hKernel) (hPre_kept_Kernel := hPre_kept_Kernel)
    ∧ quiescent_KernelIdeal (hKernelIdeal := hKernelIdeal) (hPre_swapped_Kernel := hPre_swapped_Kernel)
    ∧ quiescent_KernelIdeal_pre_kept_Kernel (hKernelIdeal := hKernelIdeal) (hPre_kept_Kernel := hPre_kept_Kernel)
    ∧ quiescent_ReferenceIdeal (hReferenceIdeal := hReferenceIdeal)
    ∧ quiescent_ReferenceIdeal_pre_swapped_ReferenceIdeal (hReferenceIdeal := hReferenceIdeal) (hPre_swapped_ReferenceIdeal := hPre_swapped_ReferenceIdeal)
    ∧ quiescent_ReferenceIdeal_pre_kept_ReferenceIdeal (hReferenceIdeal := hReferenceIdeal) (hPre_kept_ReferenceIdeal := hPre_kept_ReferenceIdeal)
    ∧ preserves_Kernel_KernelIdeal
    ∧ algebraic_KernelIdeal_ReferenceIdeal (hKernelIdeal := hKernelIdeal) (hReferenceIdeal := hReferenceIdeal) (hPre_swapped_Kernel := hPre_swapped_Kernel)
    ∧ algebraic_KernelIdeal_ReferenceIdeal_pre_kept_Kernel (hKernelIdeal := hKernelIdeal) (hReferenceIdeal := hReferenceIdeal) (hPre_kept_Kernel := hPre_kept_Kernel)
-- ==== Pre_kept_Kernel.lean ====
abbrev S1x1024x1024 : Shape := ⟨3, ![1, 1024, 1024]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S1x1024x1024 .f32) (main_arg1 : IVec S2 32) : IVec S2 1 :=
  let main_c : IVec S2 32 := fun i => lit0 (S2.rowMajor i)
  let main_v0 : IVec S2 1 := cmpi .eq main_arg1 main_c
  main_v0
-- ==== Pre_kept_ReferenceIdeal.lean ====
abbrev S2x1024x1024 : Shape := ⟨3, ![2, 1024, 1024]⟩
abbrev S2 : Shape := ⟨1, ![2]⟩

class Facts : Prop where

variable [Facts]

noncomputable abbrev lit0 : Fin 2 → BitVec 32 := fun
  | 0 => 0#32 | 1 => 1#32
  | _ => 0#32

def fn {F : FTy → Type} [FloatOps F] (main_arg0 : FVec F S2x1024x1024 .f32) (main_arg1 : IVec S2 32) : IVec S2 1 :=
  let main_c : IVec S2 32 := fun i => lit0 (S2.rowMajor i)
  let main_v0 : IVec S2 1 := cmpi .eq main_arg1 main_c
  main_v0
-- ==== Pre_swapped_Kernel.lean ====
abbrev S1x1024x1024 : Shape := ⟨3, ![1, 1024, 1024]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S1x1024x1024 .f32) (main_arg1 : IVec S2 32) : IVec S2 1 :=
  let main_c : IVec S2 32 := fun i => lit0 (S2.rowMajor i)
  let main_v0 : IVec S2 1 := cmpi .eq main_arg1 main_c
  main_v0
-- ==== Pre_swapped_ReferenceIdeal.lean ====
abbrev S2x1024x1024 : Shape := ⟨3, ![2, 1024, 1024]⟩
abbrev S2 : Shape := ⟨1, ![2]⟩

class Facts : Prop where

variable [Facts]

noncomputable abbrev lit0 : Fin 2 → BitVec 32 := fun
  | 0 => 1#32 | 1 => 0#32
  | _ => 0#32

def fn {F : FTy → Type} [FloatOps F] (main_arg0 : FVec F S2x1024x1024 .f32) (main_arg1 : IVec S2 32) : IVec S2 1 :=
  let main_c : IVec S2 32 := fun i => lit0 (S2.rowMajor i)
  let main_v0 : IVec S2 1 := cmpi .eq main_arg1 main_c
  main_v0
-- ==== Kernel.lean ====
abbrev S1x1024x1024 : Shape := ⟨3, ![1, 1024, 1024]⟩
abbrev S2 : Shape := ⟨1, ![2]⟩
abbrev S27 : Shape := ⟨1, ![27]⟩
abbrev S_ : Shape := ⟨0, ![]⟩
abbrev S1 : Shape := ⟨1, ![1]⟩
abbrev S1x32x1024 : Shape := ⟨3, ![1, 32, 1024]⟩
abbrev S1x128x1024 : Shape := ⟨3, ![1, 128, 1024]⟩
abbrev S1x64x1024 : Shape := ⟨3, ![1, 64, 1024]⟩

abbrev nBuf : Space → Nat
  | .hbm => 3
  | .vmem => 0
  | .smem => 1
  | _ => 0

abbrev bufTy : (tb : Table) → Fin (tcTables nBuf tb) → BufTy
  | .hbm, ⟨0, _⟩ => ⟨S1x1024x1024, .f32⟩
  | .hbm, ⟨1, _⟩ => ⟨S2, .i32⟩
  | .hbm, ⟨2, _⟩ => ⟨S1x1024x1024, .f32⟩
  | .local _ .smem, ⟨0, _⟩ => ⟨S2, .i32⟩
  | _, _ => ⟨S1x1024x1024, .f32⟩

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32_18 : BitVec 32 := 0#32
  let c4_i32_17 : BitVec 32 := 4#32
  let v41 : BitVec 32 := Scalar.muli v10 c4_i32_17
  let v42 : BitVec 32 := Scalar.addi c0_i32_18 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v43 : BitVec 32 := Scalar.muli v5 c2_i32_19
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_20 : BitVec 32 := 1#32
  let v45 : BitVec 32 := Scalar.muli v8 c1_i32_20
  let v46 : BitVec 32 := Scalar.addi v44 v45
  v46.toNat
def k0_cond2 (d0 : Dev nD) (v10 : BitVec 32) : BitVec 1 :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 1 := Scalar.cmpi .ne v10 v2
  let v15 : BitVec 32 := Scalar.extui v14
  let c0_i32_3 : BitVec 32 := 0#32
  let v16 : BitVec 1 := Scalar.cmpi .ne v15 c0_i32_3
  v16

def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v47 : BitVec 32 := Scalar.muli v2 c4_i32_22
  let v48 : BitVec 32 := Scalar.addi c0_i32_23 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_12 : BitVec 32 := 1#32
  let v32 : BitVec 32 := Scalar.subi c1_i32_12 v5
  let v33 : BitVec 32 := Scalar.select v28 v5 v32
  let c2_i32_24 : BitVec 32 := 2#32
  let v49 : BitVec 32 := Scalar.muli v33 c2_i32_24
  let v50 : BitVec 32 := Scalar.addi v48 v49
  let c1_i32_13 : BitVec 32 := 1#32
  let v34 : BitVec 32 := Scalar.subi c1_i32_13 v8
  let v35 : BitVec 32 := Scalar.select v28 v34 v8
  let c1_i32_25 : BitVec 32 := 1#32
  let v51 : BitVec 32 := Scalar.muli v35 c1_i32_25
  let v52 : BitVec 32 := Scalar.addi v50 v51
  v52.toNat
def k0_dev3 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v53 : BitVec 32 := Scalar.muli v2 c4_i32_27
  let v54 : BitVec 32 := Scalar.addi c0_i32_28 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_14 : BitVec 32 := 1#32
  let v36 : BitVec 32 := Scalar.subi c1_i32_14 v5
  let v37 : BitVec 32 := Scalar.select v28 v36 v5
  let c2_i32_29 : BitVec 32 := 2#32
  let v55 : BitVec 32 := Scalar.muli v37 c2_i32_29
  let v56 : BitVec 32 := Scalar.addi v54 v55
  let c1_i32_15 : BitVec 32 := 1#32
  let v38 : BitVec 32 := Scalar.subi c1_i32_15 v8
  let v39 : BitVec 32 := Scalar.select v28 v8 v38
  let c1_i32_30 : BitVec 32 := 1#32
  let v57 : BitVec 32 := Scalar.muli v39 c1_i32_30
  let v58 : BitVec 32 := Scalar.addi v56 v57
  v58.toNat
def k0_off2 (d0 : Dev nD) (c0_i32_56 : BitVec 32) : Fin 3 → Nat :=
  let c0_i32_63 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v29 : BitVec 1 := Scalar.cmpi .eq v5 c0_i32_11
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3_i32 : BitVec 32 := 3#32
  let v30 : BitVec 32 := Scalar.subi c3_i32 v8
  let v31 : BitVec 32 := Scalar.select v29 v8 v30
  let c256_i32 : BitVec 32 := 256#32
  let v59 : BitVec 32 := Scalar.muli v31 c256_i32
  let v96 : BitVec 32 := Scalar.addi v59 c0_i32_56
  let c0_i32_64 : BitVec 32 := 0#32
  ![0, v96.toNat, 0]
def k0_dev4 (d0 : Dev nD) (v10 : BitVec 32) : Nat :=
  let c0_i32_60 : BitVec 32 := 0#32
  let c4_i32_59 : BitVec 32 := 4#32
  let v104 : BitVec 32 := Scalar.muli v10 c4_i32_59
  let v105 : BitVec 32 := Scalar.addi c0_i32_60 v104
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v106 : BitVec 32 := Scalar.muli v5 c2_i32_61
  let v107 : BitVec 32 := Scalar.addi v105 v106
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v108 : BitVec 32 := Scalar.muli v8 c1_i32_62
  let v109 : BitVec 32 := Scalar.addi v107 v108
  v109.toNat
def k0_dev5 (d0 : Dev nD) (v10 : BitVec 32) : Nat :=
  let c0_i32_70 : BitVec 32 := 0#32
  let c4_i32_69 : BitVec 32 := 4#32
  let v116 : BitVec 32 := Scalar.muli v10 c4_i32_69
  let v117 : BitVec 32 := Scalar.addi c0_i32_70 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_71 : BitVec 32 := 2#32
  let v118 : BitVec 32 := Scalar.muli v5 c2_i32_71
  let v119 : BitVec 32 := Scalar.addi v117 v118
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v120 : BitVec 32 := Scalar.muli v8 c1_i32_72
  let v121 : BitVec 32 := Scalar.addi v119 v120
  v121.toNat
def k0_dev6 (d0 : Dev nD) (v10 : BitVec 32) : Nat :=
  let c0_i32_80 : BitVec 32 := 0#32
  let c4_i32_79 : BitVec 32 := 4#32
  let v128 : BitVec 32 := Scalar.muli v10 c4_i32_79
  let v129 : BitVec 32 := Scalar.addi c0_i32_80 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_81 : BitVec 32 := 2#32
  let v130 : BitVec 32 := Scalar.muli v5 c2_i32_81
  let v131 : BitVec 32 := Scalar.addi v129 v130
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_82 : BitVec 32 := 1#32
  let v132 : BitVec 32 := Scalar.muli v8 c1_i32_82
  let v133 : BitVec 32 := Scalar.addi v131 v132
  v133.toNat
def k0_dev7 (d0 : Dev nD) (v10 : BitVec 32) : Nat :=
  let c0_i32_90 : BitVec 32 := 0#32
  let c4_i32_89 : BitVec 32 := 4#32
  let v140 : BitVec 32 := Scalar.muli v10 c4_i32_89
  let v141 : BitVec 32 := Scalar.addi c0_i32_90 v140
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_91 : BitVec 32 := 2#32
  let v142 : BitVec 32 := Scalar.muli v5 c2_i32_91
  let v143 : BitVec 32 := Scalar.addi v141 v142
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_92 : BitVec 32 := 1#32
  let v144 : BitVec 32 := Scalar.muli v8 c1_i32_92
  let v145 : BitVec 32 := Scalar.addi v143 v144
  v145.toNat
def k0_dev8 (d0 : Dev nD) (v10 : BitVec 32) : Nat :=
  let c0_i32_100 : BitVec 32 := 0#32
  let c4_i32_99 : BitVec 32 := 4#32
  let v152 : BitVec 32 := Scalar.muli v10 c4_i32_99
  let v153 : BitVec 32 := Scalar.addi c0_i32_100 v152
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_101 : BitVec 32 := 2#32
  let v154 : BitVec 32 := Scalar.muli v5 c2_i32_101
  let v155 : BitVec 32 := Scalar.addi v153 v154
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v156 : BitVec 32 := Scalar.muli v8 c1_i32_102
  let v157 : BitVec 32 := Scalar.addi v155 v156
  v157.toNat
def k0_dev9 (d0 : Dev nD) (v10 : BitVec 32) : Nat :=
  let c0_i32_109 : BitVec 32 := 0#32
  let c4_i32_108 : BitVec 32 := 4#32
  let v164 : BitVec 32 := Scalar.muli v10 c4_i32_108
  let v165 : BitVec 32 := Scalar.addi c0_i32_109 v164
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_110 : BitVec 32 := 2#32
  let v166 : BitVec 32 := Scalar.muli v5 c2_i32_110
  let v167 : BitVec 32 := Scalar.addi v165 v166
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_111 : BitVec 32 := 1#32
  let v168 : BitVec 32 := Scalar.muli v8 c1_i32_111
  let v169 : BitVec 32 := Scalar.addi v167 v168
  v169.toNat
def k0_dev10 (d0 : Dev nD) (v10 : BitVec 32) : Nat :=
  let c0_i32_118 : BitVec 32 := 0#32
  let c4_i32_117 : BitVec 32 := 4#32
  let v176 : BitVec 32 := Scalar.muli v10 c4_i32_117
  let v177 : BitVec 32 := Scalar.addi c0_i32_118 v176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v178 : BitVec 32 := Scalar.muli v5 c2_i32_119
  let v179 : BitVec 32 := Scalar.addi v177 v178
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_120 : BitVec 32 := 1#32
  let v180 : BitVec 32 := Scalar.muli v8 c1_i32_120
  let v181 : BitVec 32 := Scalar.addi v179 v180
  v181.toNat
def k0_dev11 (d0 : Dev nD) (v10 : BitVec 32) : Nat :=
  let c0_i32_127 : BitVec 32 := 0#32
  let c4_i32_126 : BitVec 32 := 4#32
  let v188 : BitVec 32 := Scalar.muli v10 c4_i32_126
  let v189 : BitVec 32 := Scalar.addi c0_i32_127 v188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_128 : BitVec 32 := 2#32
  let v190 : BitVec 32 := Scalar.muli v5 c2_i32_128
  let v191 : BitVec 32 := Scalar.addi v189 v190
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_129 : BitVec 32 := 1#32
  let v192 : BitVec 32 := Scalar.muli v8 c1_i32_129
  let v193 : BitVec 32 := Scalar.addi v191 v192
  v193.toNat
def k0_off3 (d0 : Dev nD) : Fin 3 → Nat :=
  let c0_i32_139 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v29 : BitVec 1 := Scalar.cmpi .eq v5 c0_i32_11
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3_i32 : BitVec 32 := 3#32
  let v30 : BitVec 32 := Scalar.subi c3_i32 v8
  let v31 : BitVec 32 := Scalar.select v29 v8 v30
  let c2_i32_48 : BitVec 32 := 2#32
  let v84 : BitVec 32 := Scalar.addi v31 c2_i32_48
  let c4_i32_49 : BitVec 32 := 4#32
  let c0_i32_50 : BitVec 32 := 0#32
  let v85 : BitVec 1 := Scalar.cmpi .eq c4_i32_49 c0_i32_50
  let c1_i32_51 : BitVec 32 := 1#32
  let v86 : BitVec 32 := Scalar.select v85 c1_i32_51 c4_i32_49
  let v87 : BitVec 32 := Scalar.remsi v84 v86
  let c0_i32_53 : BitVec 32 := 0#32
  let v89 : BitVec 1 := Scalar.cmpi .slt v87 c0_i32_53
  let c0_i32_54 : BitVec 32 := 0#32
  let v90 : BitVec 1 := Scalar.cmpi .slt v86 c0_i32_54
  let v91 : BitVec 1 := Scalar.xori v89 v90
  let c0_i32_52 : BitVec 32 := 0#32
  let v88 : BitVec 1 := Scalar.cmpi .ne v87 c0_i32_52
  let v92 : BitVec 1 := Scalar.andi v91 v88
  let v93 : BitVec 32 := Scalar.addi v87 v86
  let v94 : BitVec 32 := Scalar.select v92 v93 v87
  let c256_i32_55 : BitVec 32 := 256#32
  let v95 : BitVec 32 := Scalar.muli v94 c256_i32_55
  let c0_i32_140 : BitVec 32 := 0#32
  ![0, v95.toNat, 0]
def k0_dev12 (d0 : Dev nD) (v10 : BitVec 32) : Nat :=
  let c0_i32_136 : BitVec 32 := 0#32
  let c4_i32_135 : BitVec 32 := 4#32
  let v200 : BitVec 32 := Scalar.muli v10 c4_i32_135
  let v201 : BitVec 32 := Scalar.addi c0_i32_136 v200
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_137 : BitVec 32 := 2#32
  let v202 : BitVec 32 := Scalar.muli v5 c2_i32_137
  let v203 : BitVec 32 := Scalar.addi v201 v202
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_138 : BitVec 32 := 1#32
  let v204 : BitVec 32 := Scalar.muli v8 c1_i32_138
  let v205 : BitVec 32 := Scalar.addi v203 v204
  v205.toNat

def k0_chk1 (d0 : Dev nD) (v10 : BitVec 32) : Prop :=
  (∀ (k0_h2 : k0_cond2 d0 v10 = 1#1), (k0_dev1 d0 v10) < nD) ∧
  (∀ (k0_h2 : k0_cond2 d0 v10 = 1#1), (k0_dev4 d0 v10) < nD) ∧
  (∀ (k0_h2 : k0_cond2 d0 v10 = 1#1), (k0_dev5 d0 v10) < nD) ∧
  (∀ (k0_h2 : k0_cond2 d0 v10 = 1#1), (k0_dev6 d0 v10) < nD) ∧
  (∀ (k0_h2 : k0_cond2 d0 v10 = 1#1), (k0_dev7 d0 v10) < nD) ∧
  (∀ (k0_h2 : k0_cond2 d0 v10 = 1#1), (k0_dev8 d0 v10) < nD) ∧
  (∀ (k0_h2 : k0_cond2 d0 v10 = 1#1), (k0_dev9 d0 v10) < nD) ∧
  (∀ (k0_h2 : k0_cond2 d0 v10 = 1#1), (k0_dev10 d0 v10) < nD) ∧
  (∀ (k0_h2 : k0_cond2 d0 v10 = 1#1), (k0_dev11 d0 v10) < nD) ∧
  (∀ (k0_h2 : k0_cond2 d0 v10 = 1#1), (k0_dev12 d0 v10) < nD)
theorem k0_dev1_lt : ∀ (d0 : Dev nD) (v10 : BitVec 32) (k0_hw1 : k0_chk1 d0 v10), ∀ (k0_h2 : k0_cond2 d0 v10 = 1#1), (k0_dev1 d0 v10) < nD := fun d0 v10 k0_hw1 k0_h2 => k0_hw1.1 k0_h2
theorem k0_dev4_lt : ∀ (d0 : Dev nD) (v10 : BitVec 32) (k0_hw1 : k0_chk1 d0 v10), ∀ (k0_h2 : k0_cond2 d0 v10 = 1#1), (k0_dev4 d0 v10) < nD := fun d0 v10 k0_hw1 k0_h2 => k0_hw1.2.1 k0_h2
theorem k0_dev5_lt : ∀ (d0 : Dev nD) (v10 : BitVec 32) (k0_hw1 : k0_chk1 d0 v10), ∀ (k0_h2 : k0_cond2 d0 v10 = 1#1), (k0_dev5 d0 v10) < nD := fun d0 v10 k0_hw1 k0_h2 => k0_hw1.2.2.1 k0_h2
theorem k0_dev6_lt : ∀ (d0 : Dev nD) (v10 : BitVec 32) (k0_hw1 : k0_chk1 d0 v10), ∀ (k0_h2 : k0_cond2 d0 v10 = 1#1), (k0_dev6 d0 v10) < nD := fun d0 v10 k0_hw1 k0_h2 => k0_hw1.2.2.2.1 k0_h2
theorem k0_dev7_lt : ∀ (d0 : Dev nD) (v10 : BitVec 32) (k0_hw1 : k0_chk1 d0 v10), ∀ (k0_h2 : k0_cond2 d0 v10 = 1#1), (k0_dev7 d0 v10) < nD := fun d0 v10 k0_hw1 k0_h2 => k0_hw1.2.2.2.2.1 k0_h2
theorem k0_dev8_lt : ∀ (d0 : Dev nD) (v10 : BitVec 32) (k0_hw1 : k0_chk1 d0 v10), ∀ (k0_h2 : k0_cond2 d0 v10 = 1#1), (k0_dev8 d0 v10) < nD := fun d0 v10 k0_hw1 k0_h2 => k0_hw1.2.2.2.2.2.1 k0_h2
theorem k0_dev9_lt : ∀ (d0 : Dev nD) (v10 : BitVec 32) (k0_hw1 : k0_chk1 d0 v10), ∀ (k0_h2 : k0_cond2 d0 v10 = 1#1), (k0_dev9 d0 v10) < nD := fun d0 v10 k0_hw1 k0_h2 => k0_hw1.2.2.2.2.2.2.1 k0_h2
theorem k0_dev10_lt : ∀ (d0 : Dev nD) (v10 : BitVec 32) (k0_hw1 : k0_chk1 d0 v10), ∀ (k0_h2 : k0_cond2 d0 v10 = 1#1), (k0_dev10 d0 v10) < nD := fun d0 v10 k0_hw1 k0_h2 => k0_hw1.2.2.2.2.2.2.2.1 k0_h2
theorem k0_dev11_lt : ∀ (d0 : Dev nD) (v10 : BitVec 32) (k0_hw1 : k0_chk1 d0 v10), ∀ (k0_h2 : k0_cond2 d0 v10 = 1#1), (k0_dev11 d0 v10) < nD := fun d0 v10 k0_hw1 k0_h2 => k0_hw1.2.2.2.2.2.2.2.2.1 k0_h2
theorem k0_dev12_lt : ∀ (d0 : Dev nD) (v10 : BitVec 32) (k0_hw1 : k0_chk1 d0 v10), ∀ (k0_h2 : k0_cond2 d0 v10 = 1#1), (k0_dev12 d0 v10) < nD := fun d0 v10 k0_hw1 k0_h2 => k0_hw1.2.2.2.2.2.2.2.2.2 k0_h2

def k0_dev13 (d0 : Dev nD) : Nat :=
  let c0_i32_157 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_156 : BitVec 32 := 4#32
  let v224 : BitVec 32 := Scalar.muli v2 c4_i32_156
  let v225 : BitVec 32 := Scalar.addi c0_i32_157 v224
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_12 : BitVec 32 := 1#32
  let v32 : BitVec 32 := Scalar.subi c1_i32_12 v5
  let v33 : BitVec 32 := Scalar.select v28 v5 v32
  let c2_i32_158 : BitVec 32 := 2#32
  let v226 : BitVec 32 := Scalar.muli v33 c2_i32_158
  let v227 : BitVec 32 := Scalar.addi v225 v226
  let c1_i32_13 : BitVec 32 := 1#32
  let v34 : BitVec 32 := Scalar.subi c1_i32_13 v8
  let v35 : BitVec 32 := Scalar.select v28 v34 v8
  let c1_i32_159 : BitVec 32 := 1#32
  let v228 : BitVec 32 := Scalar.muli v35 c1_i32_159
  let v229 : BitVec 32 := Scalar.addi v227 v228
  v229.toNat
def k0_dev14 (d0 : Dev nD) : Nat :=
  let c0_i32_166 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_165 : BitVec 32 := 4#32
  let v236 : BitVec 32 := Scalar.muli v2 c4_i32_165
  let v237 : BitVec 32 := Scalar.addi c0_i32_166 v236
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_14 : BitVec 32 := 1#32
  let v36 : BitVec 32 := Scalar.subi c1_i32_14 v5
  let v37 : BitVec 32 := Scalar.select v28 v36 v5
  let c2_i32_167 : BitVec 32 := 2#32
  let v238 : BitVec 32 := Scalar.muli v37 c2_i32_167
  let v239 : BitVec 32 := Scalar.addi v237 v238
  let c1_i32_15 : BitVec 32 := 1#32
  let v38 : BitVec 32 := Scalar.subi c1_i32_15 v8
  let v39 : BitVec 32 := Scalar.select v28 v8 v38
  let c1_i32_168 : BitVec 32 := 1#32
  let v240 : BitVec 32 := Scalar.muli v39 c1_i32_168
  let v241 : BitVec 32 := Scalar.addi v239 v240
  v241.toNat
def k0_dev15 (d0 : Dev nD) : Nat :=
  let c0_i32_187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_186 : BitVec 32 := 4#32
  let v260 : BitVec 32 := Scalar.muli v2 c4_i32_186
  let v261 : BitVec 32 := Scalar.addi c0_i32_187 v260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_12 : BitVec 32 := 1#32
  let v32 : BitVec 32 := Scalar.subi c1_i32_12 v5
  let v33 : BitVec 32 := Scalar.select v28 v5 v32
  let c2_i32_188 : BitVec 32 := 2#32
  let v262 : BitVec 32 := Scalar.muli v33 c2_i32_188
  let v263 : BitVec 32 := Scalar.addi v261 v262
  let c1_i32_13 : BitVec 32 := 1#32
  let v34 : BitVec 32 := Scalar.subi c1_i32_13 v8
  let v35 : BitVec 32 := Scalar.select v28 v34 v8
  let c1_i32_189 : BitVec 32 := 1#32
  let v264 : BitVec 32 := Scalar.muli v35 c1_i32_189
  let v265 : BitVec 32 := Scalar.addi v263 v264
  v265.toNat
def k0_dev16 (d0 : Dev nD) : Nat :=
  let c0_i32_196 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_195 : BitVec 32 := 4#32
  let v272 : BitVec 32 := Scalar.muli v2 c4_i32_195
  let v273 : BitVec 32 := Scalar.addi c0_i32_196 v272
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_14 : BitVec 32 := 1#32
  let v36 : BitVec 32 := Scalar.subi c1_i32_14 v5
  let v37 : BitVec 32 := Scalar.select v28 v36 v5
  let c2_i32_197 : BitVec 32 := 2#32
  let v274 : BitVec 32 := Scalar.muli v37 c2_i32_197
  let v275 : BitVec 32 := Scalar.addi v273 v274
  let c1_i32_15 : BitVec 32 := 1#32
  let v38 : BitVec 32 := Scalar.subi c1_i32_15 v8
  let v39 : BitVec 32 := Scalar.select v28 v8 v38
  let c1_i32_198 : BitVec 32 := 1#32
  let v276 : BitVec 32 := Scalar.muli v39 c1_i32_198
  let v277 : BitVec 32 := Scalar.addi v275 v276
  v277.toNat
def k0_dev17 (d0 : Dev nD) : Nat :=
  let c0_i32_217 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_216 : BitVec 32 := 4#32
  let v296 : BitVec 32 := Scalar.muli v2 c4_i32_216
  let v297 : BitVec 32 := Scalar.addi c0_i32_217 v296
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_12 : BitVec 32 := 1#32
  let v32 : BitVec 32 := Scalar.subi c1_i32_12 v5
  let v33 : BitVec 32 := Scalar.select v28 v5 v32
  let c2_i32_218 : BitVec 32 := 2#32
  let v298 : BitVec 32 := Scalar.muli v33 c2_i32_218
  let v299 : BitVec 32 := Scalar.addi v297 v298
  let c1_i32_13 : BitVec 32 := 1#32
  let v34 : BitVec 32 := Scalar.subi c1_i32_13 v8
  let v35 : BitVec 32 := Scalar.select v28 v34 v8
  let c1_i32_219 : BitVec 32 := 1#32
  let v300 : BitVec 32 := Scalar.muli v35 c1_i32_219
  let v301 : BitVec 32 := Scalar.addi v299 v300
  v301.toNat
def k0_dev18 (d0 : Dev nD) : Nat :=
  let c0_i32_226 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_225 : BitVec 32 := 4#32
  let v308 : BitVec 32 := Scalar.muli v2 c4_i32_225
  let v309 : BitVec 32 := Scalar.addi c0_i32_226 v308
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_14 : BitVec 32 := 1#32
  let v36 : BitVec 32 := Scalar.subi c1_i32_14 v5
  let v37 : BitVec 32 := Scalar.select v28 v36 v5
  let c2_i32_227 : BitVec 32 := 2#32
  let v310 : BitVec 32 := Scalar.muli v37 c2_i32_227
  let v311 : BitVec 32 := Scalar.addi v309 v310
  let c1_i32_15 : BitVec 32 := 1#32
  let v38 : BitVec 32 := Scalar.subi c1_i32_15 v8
  let v39 : BitVec 32 := Scalar.select v28 v8 v38
  let c1_i32_228 : BitVec 32 := 1#32
  let v312 : BitVec 32 := Scalar.muli v39 c1_i32_228
  let v313 : BitVec 32 := Scalar.addi v311 v312
  v313.toNat
def k0_dev19 (d0 : Dev nD) : Nat :=
  let c0_i32_247 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_246 : BitVec 32 := 4#32
  let v332 : BitVec 32 := Scalar.muli v2 c4_i32_246
  let v333 : BitVec 32 := Scalar.addi c0_i32_247 v332
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_12 : BitVec 32 := 1#32
  let v32 : BitVec 32 := Scalar.subi c1_i32_12 v5
  let v33 : BitVec 32 := Scalar.select v28 v5 v32
  let c2_i32_248 : BitVec 32 := 2#32
  let v334 : BitVec 32 := Scalar.muli v33 c2_i32_248
  let v335 : BitVec 32 := Scalar.addi v333 v334
  let c1_i32_13 : BitVec 32 := 1#32
  let v34 : BitVec 32 := Scalar.subi c1_i32_13 v8
  let v35 : BitVec 32 := Scalar.select v28 v34 v8
  let c1_i32_249 : BitVec 32 := 1#32
  let v336 : BitVec 32 := Scalar.muli v35 c1_i32_249
  let v337 : BitVec 32 := Scalar.addi v335 v336
  v337.toNat
def k0_dev20 (d0 : Dev nD) : Nat :=
  let c0_i32_256 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_255 : BitVec 32 := 4#32
  let v344 : BitVec 32 := Scalar.muli v2 c4_i32_255
  let v345 : BitVec 32 := Scalar.addi c0_i32_256 v344
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_14 : BitVec 32 := 1#32
  let v36 : BitVec 32 := Scalar.subi c1_i32_14 v5
  let v37 : BitVec 32 := Scalar.select v28 v36 v5
  let c2_i32_257 : BitVec 32 := 2#32
  let v346 : BitVec 32 := Scalar.muli v37 c2_i32_257
  let v347 : BitVec 32 := Scalar.addi v345 v346
  let c1_i32_15 : BitVec 32 := 1#32
  let v38 : BitVec 32 := Scalar.subi c1_i32_15 v8
  let v39 : BitVec 32 := Scalar.select v28 v8 v38
  let c1_i32_258 : BitVec 32 := 1#32
  let v348 : BitVec 32 := Scalar.muli v39 c1_i32_258
  let v349 : BitVec 32 := Scalar.addi v347 v348
  v349.toNat
def k0_dev21 (d0 : Dev nD) : Nat :=
  let c0_i32_277 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_276 : BitVec 32 := 4#32
  let v368 : BitVec 32 := Scalar.muli v2 c4_i32_276
  let v369 : BitVec 32 := Scalar.addi c0_i32_277 v368
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_12 : BitVec 32 := 1#32
  let v32 : BitVec 32 := Scalar.subi c1_i32_12 v5
  let v33 : BitVec 32 := Scalar.select v28 v5 v32
  let c2_i32_278 : BitVec 32 := 2#32
  let v370 : BitVec 32 := Scalar.muli v33 c2_i32_278
  let v371 : BitVec 32 := Scalar.addi v369 v370
  let c1_i32_13 : BitVec 32 := 1#32
  let v34 : BitVec 32 := Scalar.subi c1_i32_13 v8
  let v35 : BitVec 32 := Scalar.select v28 v34 v8
  let c1_i32_279 : BitVec 32 := 1#32
  let v372 : BitVec 32 := Scalar.muli v35 c1_i32_279
  let v373 : BitVec 32 := Scalar.addi v371 v372
  v373.toNat
def k0_dev22 (d0 : Dev nD) : Nat :=
  let c0_i32_286 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_285 : BitVec 32 := 4#32
  let v380 : BitVec 32 := Scalar.muli v2 c4_i32_285
  let v381 : BitVec 32 := Scalar.addi c0_i32_286 v380
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_14 : BitVec 32 := 1#32
  let v36 : BitVec 32 := Scalar.subi c1_i32_14 v5
  let v37 : BitVec 32 := Scalar.select v28 v36 v5
  let c2_i32_287 : BitVec 32 := 2#32
  let v382 : BitVec 32 := Scalar.muli v37 c2_i32_287
  let v383 : BitVec 32 := Scalar.addi v381 v382
  let c1_i32_15 : BitVec 32 := 1#32
  let v38 : BitVec 32 := Scalar.subi c1_i32_15 v8
  let v39 : BitVec 32 := Scalar.select v28 v8 v38
  let c1_i32_288 : BitVec 32 := 1#32
  let v384 : BitVec 32 := Scalar.muli v39 c1_i32_288
  let v385 : BitVec 32 := Scalar.addi v383 v384
  v385.toNat
def k0_dev23 (d0 : Dev nD) : Nat :=
  let c0_i32_307 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_306 : BitVec 32 := 4#32
  let v404 : BitVec 32 := Scalar.muli v2 c4_i32_306
  let v405 : BitVec 32 := Scalar.addi c0_i32_307 v404
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_12 : BitVec 32 := 1#32
  let v32 : BitVec 32 := Scalar.subi c1_i32_12 v5
  let v33 : BitVec 32 := Scalar.select v28 v5 v32
  let c2_i32_308 : BitVec 32 := 2#32
  let v406 : BitVec 32 := Scalar.muli v33 c2_i32_308
  let v407 : BitVec 32 := Scalar.addi v405 v406
  let c1_i32_13 : BitVec 32 := 1#32
  let v34 : BitVec 32 := Scalar.subi c1_i32_13 v8
  let v35 : BitVec 32 := Scalar.select v28 v34 v8
  let c1_i32_309 : BitVec 32 := 1#32
  let v408 : BitVec 32 := Scalar.muli v35 c1_i32_309
  let v409 : BitVec 32 := Scalar.addi v407 v408
  v409.toNat
def k0_dev24 (d0 : Dev nD) : Nat :=
  let c0_i32_316 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_315 : BitVec 32 := 4#32
  let v416 : BitVec 32 := Scalar.muli v2 c4_i32_315
  let v417 : BitVec 32 := Scalar.addi c0_i32_316 v416
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_14 : BitVec 32 := 1#32
  let v36 : BitVec 32 := Scalar.subi c1_i32_14 v5
  let v37 : BitVec 32 := Scalar.select v28 v36 v5
  let c2_i32_317 : BitVec 32 := 2#32
  let v418 : BitVec 32 := Scalar.muli v37 c2_i32_317
  let v419 : BitVec 32 := Scalar.addi v417 v418
  let c1_i32_15 : BitVec 32 := 1#32
  let v38 : BitVec 32 := Scalar.subi c1_i32_15 v8
  let v39 : BitVec 32 := Scalar.select v28 v8 v38
  let c1_i32_318 : BitVec 32 := 1#32
  let v420 : BitVec 32 := Scalar.muli v39 c1_i32_318
  let v421 : BitVec 32 := Scalar.addi v419 v420
  v421.toNat
def k0_dev25 (d0 : Dev nD) : Nat :=
  let c0_i32_337 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_336 : BitVec 32 := 4#32
  let v440 : BitVec 32 := Scalar.muli v2 c4_i32_336
  let v441 : BitVec 32 := Scalar.addi c0_i32_337 v440
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_12 : BitVec 32 := 1#32
  let v32 : BitVec 32 := Scalar.subi c1_i32_12 v5
  let v33 : BitVec 32 := Scalar.select v28 v5 v32
  let c2_i32_338 : BitVec 32 := 2#32
  let v442 : BitVec 32 := Scalar.muli v33 c2_i32_338
  let v443 : BitVec 32 := Scalar.addi v441 v442
  let c1_i32_13 : BitVec 32 := 1#32
  let v34 : BitVec 32 := Scalar.subi c1_i32_13 v8
  let v35 : BitVec 32 := Scalar.select v28 v34 v8
  let c1_i32_339 : BitVec 32 := 1#32
  let v444 : BitVec 32 := Scalar.muli v35 c1_i32_339
  let v445 : BitVec 32 := Scalar.addi v443 v444
  v445.toNat
def k0_dev26 (d0 : Dev nD) : Nat :=
  let c0_i32_346 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_345 : BitVec 32 := 4#32
  let v452 : BitVec 32 := Scalar.muli v2 c4_i32_345
  let v453 : BitVec 32 := Scalar.addi c0_i32_346 v452
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_14 : BitVec 32 := 1#32
  let v36 : BitVec 32 := Scalar.subi c1_i32_14 v5
  let v37 : BitVec 32 := Scalar.select v28 v36 v5
  let c2_i32_347 : BitVec 32 := 2#32
  let v454 : BitVec 32 := Scalar.muli v37 c2_i32_347
  let v455 : BitVec 32 := Scalar.addi v453 v454
  let c1_i32_15 : BitVec 32 := 1#32
  let v38 : BitVec 32 := Scalar.subi c1_i32_15 v8
  let v39 : BitVec 32 := Scalar.select v28 v8 v38
  let c1_i32_348 : BitVec 32 := 1#32
  let v456 : BitVec 32 := Scalar.muli v39 c1_i32_348
  let v457 : BitVec 32 := Scalar.addi v455 v456
  v457.toNat
def k0_dev27 (d0 : Dev nD) : Nat :=
  let c0_i32_367 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_366 : BitVec 32 := 4#32
  let v476 : BitVec 32 := Scalar.muli v2 c4_i32_366
  let v477 : BitVec 32 := Scalar.addi c0_i32_367 v476
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_12 : BitVec 32 := 1#32
  let v32 : BitVec 32 := Scalar.subi c1_i32_12 v5
  let v33 : BitVec 32 := Scalar.select v28 v5 v32
  let c2_i32_368 : BitVec 32 := 2#32
  let v478 : BitVec 32 := Scalar.muli v33 c2_i32_368
  let v479 : BitVec 32 := Scalar.addi v477 v478
  let c1_i32_13 : BitVec 32 := 1#32
  let v34 : BitVec 32 := Scalar.subi c1_i32_13 v8
  let v35 : BitVec 32 := Scalar.select v28 v34 v8
  let c1_i32_369 : BitVec 32 := 1#32
  let v480 : BitVec 32 := Scalar.muli v35 c1_i32_369
  let v481 : BitVec 32 := Scalar.addi v479 v480
  v481.toNat
def k0_dev28 (d0 : Dev nD) : Nat :=
  let c0_i32_376 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_375 : BitVec 32 := 4#32
  let v488 : BitVec 32 := Scalar.muli v2 c4_i32_375
  let v489 : BitVec 32 := Scalar.addi c0_i32_376 v488
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_14 : BitVec 32 := 1#32
  let v36 : BitVec 32 := Scalar.subi c1_i32_14 v5
  let v37 : BitVec 32 := Scalar.select v28 v36 v5
  let c2_i32_377 : BitVec 32 := 2#32
  let v490 : BitVec 32 := Scalar.muli v37 c2_i32_377
  let v491 : BitVec 32 := Scalar.addi v489 v490
  let c1_i32_15 : BitVec 32 := 1#32
  let v38 : BitVec 32 := Scalar.subi c1_i32_15 v8
  let v39 : BitVec 32 := Scalar.select v28 v8 v38
  let c1_i32_378 : BitVec 32 := 1#32
  let v492 : BitVec 32 := Scalar.muli v39 c1_i32_378
  let v493 : BitVec 32 := Scalar.addi v491 v492
  v493.toNat
def k0_off4 (d0 : Dev nD) : Fin 3 → Nat :=
  let c0_i32_409 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v29 : BitVec 1 := Scalar.cmpi .eq v5 c0_i32_11
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3_i32 : BitVec 32 := 3#32
  let v30 : BitVec 32 := Scalar.subi c3_i32 v8
  let v31 : BitVec 32 := Scalar.select v29 v8 v30
  let c1_i32_32 : BitVec 32 := 1#32
  let v60 : BitVec 32 := Scalar.addi v31 c1_i32_32
  let c4_i32_33 : BitVec 32 := 4#32
  let c0_i32_34 : BitVec 32 := 0#32
  let v61 : BitVec 1 := Scalar.cmpi .eq c4_i32_33 c0_i32_34
  let c1_i32_35 : BitVec 32 := 1#32
  let v62 : BitVec 32 := Scalar.select v61 c1_i32_35 c4_i32_33
  let v63 : BitVec 32 := Scalar.remsi v60 v62
  let c0_i32_37 : BitVec 32 := 0#32
  let v65 : BitVec 1 := Scalar.cmpi .slt v63 c0_i32_37
  let c0_i32_38 : BitVec 32 := 0#32
  let v66 : BitVec 1 := Scalar.cmpi .slt v62 c0_i32_38
  let v67 : BitVec 1 := Scalar.xori v65 v66
  let c0_i32_36 : BitVec 32 := 0#32
  let v64 : BitVec 1 := Scalar.cmpi .ne v63 c0_i32_36
  let v68 : BitVec 1 := Scalar.andi v67 v64
  let v69 : BitVec 32 := Scalar.addi v63 v62
  let v70 : BitVec 32 := Scalar.select v68 v69 v63
  let c256_i32_39 : BitVec 32 := 256#32
  let v71 : BitVec 32 := Scalar.muli v70 c256_i32_39
  let c128_i32_403 : BitVec 32 := 128#32
  let v520 : BitVec 32 := Scalar.addi v71 c128_i32_403
  let c0_i32_410 : BitVec 32 := 0#32
  ![0, v520.toNat, 0]
def k0_dev29 (d0 : Dev nD) : Nat :=
  let c0_i32_406 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_405 : BitVec 32 := 4#32
  let v521 : BitVec 32 := Scalar.muli v2 c4_i32_405
  let v522 : BitVec 32 := Scalar.addi c0_i32_406 v521
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_14 : BitVec 32 := 1#32
  let v36 : BitVec 32 := Scalar.subi c1_i32_14 v5
  let v37 : BitVec 32 := Scalar.select v28 v36 v5
  let c2_i32_407 : BitVec 32 := 2#32
  let v523 : BitVec 32 := Scalar.muli v37 c2_i32_407
  let v524 : BitVec 32 := Scalar.addi v522 v523
  let c1_i32_15 : BitVec 32 := 1#32
  let v38 : BitVec 32 := Scalar.subi c1_i32_15 v8
  let v39 : BitVec 32 := Scalar.select v28 v8 v38
  let c1_i32_408 : BitVec 32 := 1#32
  let v525 : BitVec 32 := Scalar.muli v39 c1_i32_408
  let v526 : BitVec 32 := Scalar.addi v524 v525
  v526.toNat
def k0_off5 (d0 : Dev nD) : Fin 3 → Nat :=
  let c0_i32_440 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_11 : BitVec 32 := 0#32
  let v29 : BitVec 1 := Scalar.cmpi .eq v5 c0_i32_11
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c3_i32 : BitVec 32 := 3#32
  let v30 : BitVec 32 := Scalar.subi c3_i32 v8
  let v31 : BitVec 32 := Scalar.select v29 v8 v30
  let c3_i32_40 : BitVec 32 := 3#32
  let v72 : BitVec 32 := Scalar.addi v31 c3_i32_40
  let c4_i32_41 : BitVec 32 := 4#32
  let c0_i32_42 : BitVec 32 := 0#32
  let v73 : BitVec 1 := Scalar.cmpi .eq c4_i32_41 c0_i32_42
  let c1_i32_43 : BitVec 32 := 1#32
  let v74 : BitVec 32 := Scalar.select v73 c1_i32_43 c4_i32_41
  let v75 : BitVec 32 := Scalar.remsi v72 v74
  let c0_i32_45 : BitVec 32 := 0#32
  let v77 : BitVec 1 := Scalar.cmpi .slt v75 c0_i32_45
  let c0_i32_46 : BitVec 32 := 0#32
  let v78 : BitVec 1 := Scalar.cmpi .slt v74 c0_i32_46
  let v79 : BitVec 1 := Scalar.xori v77 v78
  let c0_i32_44 : BitVec 32 := 0#32
  let v76 : BitVec 1 := Scalar.cmpi .ne v75 c0_i32_44
  let v80 : BitVec 1 := Scalar.andi v79 v76
  let v81 : BitVec 32 := Scalar.addi v75 v74
  let v82 : BitVec 32 := Scalar.select v80 v81 v75
  let c256_i32_47 : BitVec 32 := 256#32
  let v83 : BitVec 32 := Scalar.muli v82 c256_i32_47
  let c128_i32_433 : BitVec 32 := 128#32
  let v553 : BitVec 32 := Scalar.addi v83 c128_i32_433
  let c64_i32_434 : BitVec 32 := 64#32
  let v554 : BitVec 32 := Scalar.addi v553 c64_i32_434
  let c0_i32_441 : BitVec 32 := 0#32
  ![0, v554.toNat, 0]
def k0_dev30 (d0 : Dev nD) : Nat :=
  let c0_i32_437 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_436 : BitVec 32 := 4#32
  let v555 : BitVec 32 := Scalar.muli v2 c4_i32_436
  let v556 : BitVec 32 := Scalar.addi c0_i32_437 v555
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v5 v8
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v17 v19
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let c0_i32_7 : BitVec 32 := 0#32
  let v21 : BitVec 1 := Scalar.cmpi .ne v20 c0_i32_7
  let v25 : BitVec 1 := Scalar.andi v24 v21
  let v26 : BitVec 32 := Scalar.addi v20 v19
  let v27 : BitVec 32 := Scalar.select v25 v26 v20
  let c0_i32_10 : BitVec 32 := 0#32
  let v28 : BitVec 1 := Scalar.cmpi .eq v27 c0_i32_10
  let c1_i32_12 : BitVec 32 := 1#32
  let v32 : BitVec 32 := Scalar.subi c1_i32_12 v5
  let v33 : BitVec 32 := Scalar.select v28 v5 v32
  let c2_i32_438 : BitVec 32 := 2#32
  let v557 : BitVec 32 := Scalar.muli v33 c2_i32_438
  let v558 : BitVec 32 := Scalar.addi v556 v557
  let c1_i32_13 : BitVec 32 := 1#32
  let v34 : BitVec 32 := Scalar.subi c1_i32_13 v8
  let v35 : BitVec 32 := Scalar.select v28 v34 v8
  let c1_i32_439 : BitVec 32 := 1#32
  let v559 : BitVec 32 := Scalar.muli v35 c1_i32_439
  let v560 : BitVec 32 := Scalar.addi v558 v559
  v560.toNat
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x1024x1024 : Shape := ⟨3, ![2, 1024, 1024]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Tables.lean ====
/- What the two preconditions say: the table's two entries. -/
module

public import proofs.«01_k».proof.Defs
public import proofs.«01_k».proof.Proof.Gen.Pre_swapped_Kernel
public import proofs.«01_k».proof.Proof.Gen.Pre_kept_Kernel

@[expose] public section

noncomputable section

namespace Cert.Tables

open Idealize.ShloMosaic

variable {F : FTy → Type} [FloatOps F]

/-- Two words compare equal only if they are. -/
theorem eq_of_cmpi {a b : BitVec 32} (h : IntOp.cmpi .eq a b = 1#1) : a = b := by
  have hb : ∀ p : Bool, BitVec.ofBool p = 1#1 → p = true := by decide
  exact eq_of_beq (hb _ h)

/-- The printed literals, entry by entry. -/
theorem swapped_lit : ∀ i : Pre_swapped_Kernel.S2.Idx,
    Pre_swapped_Kernel.lit0 (Pre_swapped_Kernel.S2.rowMajor i) = if (i 0).val = 0 then 1#32 else 0#32 := by decide +kernel
theorem kept_lit : ∀ i : Pre_kept_Kernel.S2.Idx,
    Pre_kept_Kernel.lit0 (Pre_kept_Kernel.S2.rowMajor i) = if (i 0).val = 0 then 0#32 else 1#32 := by decide +kernel

/-- A table the first precondition admits swaps the two rows. -/
theorem swapped_table {x : FVec F Pre_swapped_Kernel.S1x1024x1024 .f32} {p : IVec Pre_swapped_Kernel.S2 32}
    (h : Pre_swapped_Kernel.fn (F := F) x p = fun _ => 1#1) : p = fun i => if (i 0).val = 0 then 1#32 else 0#32 := by
  funext i
  exact (eq_of_cmpi (congrFun h i)).trans (swapped_lit i)

/-- A table the second admits keeps them. -/
theorem kept_table {x : FVec F Pre_kept_Kernel.S1x1024x1024 .f32} {p : IVec Pre_kept_Kernel.S2 32}
    (h : Pre_kept_Kernel.fn (F := F) x p = fun _ => 1#1) : p = fun i => if (i 0).val = 0 then 0#32 else 1#32 := by
  funext i
  exact (eq_of_cmpi (congrFun h i)).trans (kept_lit i)

end Cert.Tables

end
-- ==== Proof.Mesh.lean ====
/-
The mesh of eight devices, the twenty-seven messages each device sends, and the rows each message covers.

A device `c` has the coordinates x = c / 4, y = c / 2 % 2, z = c % 2. The four devices of one x stand on a ring by
their `place`. A message goes to the partner (the other x), to the next device on the ring, or to the one before it.
Rows are counted in grains of 32: row `r` lies in grain `r / 32`, a block of 256 rows has eight grains.
Everything here is about small finite types, so the facts are decided.
-/
module

public import Idealize.ShloMosaic.Signature
public import Idealize.ShloMosaic.Rules

@[expose] public section

namespace Cert.Mesh

open Idealize.ShloMosaic

/-- The place of a device on the ring of its four devices. -/
def place (c : Fin 8) : ℕ := if c.val / 2 % 2 = 0 then c.val % 2 else 3 - c.val % 2

/-- The place of residue `k` on a ring, inverted: which residue stands at a place. -/
def seat (q : ℕ) : Fin 4 := match q % 4 with
  | 0 => 0 | 1 => 1 | 2 => 3 | _ => 2

/-- The device of `c`'s ring at place `q`. -/
def atPlace (c : Fin 8) (q : ℕ) : Fin 8 := ⟨4 * (c.val / 4) + (seat q).val, by have := c.isLt; have := (seat q).isLt; omega⟩

/-- The device of the other x at the same place. -/
def part (c : Fin 8) : Fin 8 := ⟨(c.val + 4) % 8, Nat.mod_lt _ (by decide)⟩

/-- The three neighbours a device talks to: the partner (0), the next device on the ring (1), the one before (2). -/
def nbr (t : Fin 3) (c : Fin 8) : Fin 8 := match t with
  | 0 => part c
  | 1 => atPlace c (place c + 1)
  | 2 => atPlace c (place c + 3)

/-- The way back from a neighbour. -/
def back : Fin 3 → Fin 3
  | 0 => 0 | 1 => 2 | 2 => 1

/-- Going to a neighbour and back is staying. -/
theorem nbr_back : ∀ (t : Fin 3) (c : Fin 8), nbr t (nbr (back t) c) = c := by decide
/-- Going back to a neighbour and forth is staying. -/
theorem back_nbr : ∀ (t : Fin 3) (c : Fin 8), nbr (back t) (nbr t c) = c := by decide
theorem back_back : ∀ t : Fin 3, back (back t) = t := by decide

/-- The devices renumbered by their neighbours of kind `t`. -/
def nbrEquiv (t : Fin 3) : Fin 8 ≃ Fin 8 := ⟨nbr t, nbr (back t), back_nbr t, nbr_back t⟩

/-- To which neighbour message `j` goes: 0 to 7 and 26 to the partner, 8 to 15 and 24 to the next device on the ring,
    16 to 23 and 25 to the one before. -/
def kind (j : Fin 27) : Fin 3 :=
  if j.val < 8 then 0 else if j.val < 16 then 1 else if j.val < 24 then 2 else if j.val = 24 then 1 else if j.val = 25 then 2 else 0

/-- The device message `j` of device `c` goes to. -/
def tgt (c : Fin 8) (j : Fin 27) : Fin 8 := nbr (kind j) c
/-- The device that sends message `j` to device `c`. -/
def snd (c : Fin 8) (j : Fin 27) : Fin 8 := nbr (back (kind j)) c

theorem tgt_snd (c : Fin 8) (j : Fin 27) : tgt (snd c j) j = c := nbr_back _ _
theorem snd_tgt (c : Fin 8) (j : Fin 27) : snd (tgt c j) j = c := back_nbr _ _

/-- The first grain of message `j` of device `c`. -/
def lo (c : Fin 8) (j : Fin 27) : ℕ :=
  if j.val < 24 then 8 * place c + j.val % 8
  else if j.val = 24 then 8 * ((place c + 3) % 4) + 6
  else if j.val = 25 then 8 * ((place c + 1) % 4) + 4
  else 8 * ((place c + 2) % 4)

/-- How many grains message `j` has. -/
def len (j : Fin 27) : ℕ := if j.val < 24 then 1 else if j.val < 26 then 2 else 4

/-- Grain `g` belongs to message `j` of device `c`. -/
abbrev InMsg (c : Fin 8) (j : Fin 27) (g : ℕ) : Prop := lo c j ≤ g ∧ g < lo c j + len j

/-- Every grain of a device's result is covered by a message sent to it. -/
theorem covered : ∀ (c : Fin 8) (g : Fin 32), ∃ j : Fin 27, InMsg (snd c j) j g.val := by decide +kernel
/-- No grain of a device's result is covered by two messages sent to it. -/
theorem covered_once : ∀ (c : Fin 8) (g : Fin 32) (j j' : Fin 27), InMsg (snd c j) j g.val → InMsg (snd c j') j' g.val → j = j' := by
  decide +kernel

/-- The device whose block supplies grain `g` of device `c`'s result: of the other x, at the place of the grain's block
    — but the partner for the first half of the block opposite to `c`'s. -/
def srcDev (c : Fin 8) (g : ℕ) : Fin 8 :=
  if g / 8 = (place c + 2) % 4 ∧ g % 8 < 4 then part c else part (atPlace c (g / 8))

/-- A message to the partner carries rows of the sender's own block: they are what the partner is to get. -/
theorem srcDev_part : ∀ (c : Fin 8) (j : Fin 27) (g : Fin 32), kind j = 0 → InMsg c j g.val → srcDev (tgt c j) g.val = c := by decide +kernel
/-- A message along the ring carries rows of the sender's result: the receiver's result has the same source there. -/
theorem srcDev_ring : ∀ (c : Fin 8) (j : Fin 27) (g : Fin 32), kind j ≠ 0 → InMsg c j g.val → srcDev (tgt c j) g.val = srcDev c g.val := by
  decide +kernel
/-- The source of a row is a device of the other x. -/
theorem srcDev_x : ∀ (c : Fin 8) (g : Fin 32), (srcDev c g.val).val / 4 = 1 - c.val / 4 := by decide +kernel

/-! ## The rows as sets of indices -/

/-- The indices of a device's block whose row lies in the `n` grains from `a`. -/
def grains (a n : ℕ) : Finset (⟨3, ![1, 1024, 1024]⟩ : Shape).Idx :=
  Finset.univ.filter fun i => a ≤ (i 1).val / 32 ∧ (i 1).val / 32 < a + n

theorem mem_grains {a n : ℕ} {i : (⟨3, ![1, 1024, 1024]⟩ : Shape).Idx} : i ∈ grains a n ↔ a ≤ (i 1).val / 32 ∧ (i 1).val / 32 < a + n := by
  unfold grains; rw [Finset.mem_filter]; exact and_iff_right (Finset.mem_univ i)

/-- The rows of message `j` of device `c`. -/
def rows (c : Fin 8) (j : Fin 27) : Finset (⟨3, ![1, 1024, 1024]⟩ : Shape).Idx := grains (lo c j) (len j)
/-- The rows of device `c`'s result that the message `j` sent to it covers. -/
def inc (c : Fin 8) (j : Fin 27) : Finset (⟨3, ![1, 1024, 1024]⟩ : Shape).Idx := rows (snd c j) j

/-- An index's grain, one of thirty-two. -/
def grain (i : (⟨3, ![1, 1024, 1024]⟩ : Shape).Idx) : Fin 32 := ⟨(i 1).val / 32, by have : (i 1).val < 1024 := (i 1).isLt; omega⟩

theorem mem_rows {c : Fin 8} {j : Fin 27} {i} : i ∈ rows c j ↔ InMsg c j (grain i).val := mem_grains

theorem inc_tgt (c : Fin 8) (j : Fin 27) : inc (tgt c j) j = rows c j := by unfold inc; rw [snd_tgt]

/-- The rows of the messages sent to a device are pairwise disjoint, -/
theorem inc_disjoint (c : Fin 8) {j j' : Fin 27} (h : j ≠ j') : Disjoint (inc c j) (inc c j') :=
  Finset.disjoint_left.mpr fun i hi hi' => h (covered_once c (grain i) j j' (mem_rows.mp hi) (mem_rows.mp hi'))
/-- and together all rows. -/
theorem inc_cover (c : Fin 8) : Finset.univ.biUnion (inc c) = Finset.univ := by
  ext i
  simp only [Finset.mem_biUnion, Finset.mem_univ, true_and, iff_true]
  obtain ⟨j, hj⟩ := covered c (grain i)
  exact ⟨j, mem_rows.mpr hj⟩

/-- Two ranges of grains without a common grain are disjoint. -/
theorem grains_disjoint {a n b k : ℕ} (h : a + n ≤ b ∨ b + k ≤ a) : Disjoint (grains a n) (grains b k) :=
  Finset.disjoint_left.mpr fun i hi hi' => by
    have h1 := mem_grains.mp hi; have h2 := mem_grains.mp hi'
    omega
/-- Two neighbouring ranges of grains are one range. -/
theorem grains_union {a n b k : ℕ} (h : b = a + n) : grains a n ∪ grains b k = grains a (n + k) := by
  ext i
  rw [Finset.mem_union, mem_grains, mem_grains, mem_grains]
  omega

/-- What a device receives from its partner in chunk `k` it passes on both ways: the same rows. -/
theorem inc_fan : ∀ (c : Fin 8) (k : Fin 8), lo (snd c ⟨k.val, by omega⟩) ⟨k.val, by omega⟩ = lo c ⟨8 + k.val, by omega⟩
    ∧ lo (snd c ⟨k.val, by omega⟩) ⟨k.val, by omega⟩ = lo c ⟨16 + k.val, by omega⟩ := by decide
/-- The last two chunks from the device before are forwarded together to the next, in message 24. -/
theorem rows_24 (c : Fin 8) : rows c 24 = inc c 14 ∪ inc c 15 := by
  unfold inc rows
  rw [show len 14 = 1 from rfl, show len 15 = 1 from rfl, grains_union (by revert c; decide)]
  congr 1; revert c; decide
/-- Two chunks from the next device are forwarded together to the one before, in message 25. -/
theorem rows_25 (c : Fin 8) : rows c 25 = inc c 20 ∪ inc c 21 := by
  unfold inc rows
  rw [show len 20 = 1 from rfl, show len 21 = 1 from rfl, grains_union (by revert c; decide)]
  congr 1; revert c; decide

/-- The messages to the partner take their rows from the block; no two share a row. -/
theorem rows_part_disjoint : ∀ (c : Fin 8) (g : Fin 32) (j j' : Fin 27), kind j = 0 → kind j' = 0 → InMsg c j g.val → InMsg c j' g.val → j = j' := by
  decide +kernel

end Cert.Mesh

end
-- ==== Proof.Lists.lean ====
/-
The separating conjunction along a list: what a device holds is kept as lists of messages, in the order the program
takes them.
-/
module

public import Idealize.ShloMosaic.Lib.Pipeline.Launch

@[expose] public section

noncomputable section

namespace Cert.Lists

open Idealize.SL Idealize.SL.RA Idealize.SL.BI
open scoped Idealize.SL.BI
open Idealize.SL.BI.BIBase Idealize.SL.BI.Laws

variable {M : Type} [URA M] {I : Type}

/-- `Φ i` for every `i` of the list, one beside the other. -/
def sepList (Φ : I → sProp M) : List I → sProp M
  | [] => BI.emp
  | i :: l => iprop(Φ i ∗ sepList Φ l)

/-- It is the conjunction over the list taken without its order. -/
theorem sepList_fold (Φ : I → sProp M) (l : List I) :
    sepList Φ l = Multiset.fold BI.sep BI.emp (Multiset.map Φ (l : Multiset I)) := by
  induction l with
  | nil => rfl
  | cons i l ih =>
    unfold sepList
    rw [ih, ← Multiset.cons_coe, Multiset.map_cons, Multiset.fold_cons_left]
    rfl

/-- The order of the list does not matter. -/
theorem sepList_perm (Φ : I → sProp M) {l l' : List I} (h : l.Perm l') : sepList Φ l = sepList Φ l' := by
  rw [sepList_fold, sepList_fold, Multiset.coe_eq_coe.mpr h]

/-- Along a list without repetition it is the conjunction over the set of its members. -/
theorem sepList_eq [DecidableEq I] (Φ : I → sProp M) {l : List I} (s : Finset I) (hl : l.Nodup) (hs : l.toFinset = s) :
    sepList Φ l = bigSep s Φ := by
  subst hs
  rw [sepList_fold]
  unfold bigSep Finset.fold
  rw [List.toFinset_val, hl.dedup]

/-- A conjunction of pairs along a list is a pair of conjunctions. -/
theorem sepList_sep (Φ Ψ : I → sProp M) (l : List I) : sepList (fun i => iprop(Φ i ∗ Ψ i)) l = iprop(sepList Φ l ∗ sepList Ψ l) := by
  induction l with
  | nil => exact (equiv_iff.mp emp_sep).symm
  | cons i l ih =>
    unfold sepList
    rw [ih]
    have h := sep_sep_sep_comm (PROP := sProp M) (P := Φ i) (Q := Ψ i) (R := sepList Φ l) (S := sepList Ψ l)
    exact equiv_iff.mp ⟨h.1, h.2⟩

end Cert.Lists

end
-- ==== Proof.KernelIdealSched.lean ====
/-
The cells of the exchange, what each of their rounds is paid and hands over, and the levels that order the waits.

Every device has one barrier cell, paid one unit by each of its three neighbours, twenty-seven send cells and
twenty-seven receive cells, one of each per message, each paid once by the transfer of that message.
-/
module

public import proofs.«01_k».proof.Proof.Mesh
public import proofs.«01_k».proof.Proof.Lists
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen Cert.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barS : Sem sig := (SemArray.scalar (sig.barrier 0 rfl) : Sems sig S_).sem
set_option backward.proofsInPublic true in
/-- The semaphore message `j` reports its departure on, -/
def sendS (j : Fin 27) : DmaSem sig := ⟨1 + j.val, by have := j.isLt; show 1 + j.val < 56; omega⟩
set_option backward.proofsInPublic true in
/-- and the one it reports its arrival on. -/
def recvS (j : Fin 27) : DmaSem sig := ⟨28 + j.val, by have := j.isLt; show 28 + j.val < 56; omega⟩

abbrev barCell (c : Dev nD) : GSem nD τ sig := (c.tc, .reg barS)
abbrev sendCell (c : Dev nD) (j : Fin 27) : GSem nD τ sig := (c.tc, .dma (sendS j))
abbrev recvCell (c : Dev nD) (j : Fin 27) : GSem nD τ sig := (c.tc, .dma (recvS j))

/-- A device's cells: the barrier's, the send cells, the receive cells. -/
abbrev CI : Type := Unit ⊕ (Fin 27 ⊕ Fin 27)
abbrev csem : CI → SemLoc sig
  | .inl _ => .reg barS
  | .inr (.inl j) => .dma (sendS j)
  | .inr (.inr j) => .dma (recvS j)
abbrev kcell (ck : Dev nD × CI) : GSem nD τ sig := (ck.1.tc, csem ck.2)

/-- The message a transfer semaphore belongs to. -/
def msg (q : DmaSem sig) : Fin 27 := ⟨(q.val - 1) % 27, Nat.mod_lt _ (by decide)⟩

theorem msg_sendS (j : Fin 27) : msg (sendS j) = j := by
  have := j.isLt; apply Fin.ext; show (1 + j.val - 1) % 27 = j.val; omega
theorem msg_recvS (j : Fin 27) : msg (recvS j) = j := by
  have := j.isLt; apply Fin.ext; show (28 + j.val - 1) % 27 = j.val; omega

/-- How much message `j`'s transfer credits its cells with: by the size of its rows. -/
def amt (j : Fin 27) : ℕ :=
  if j.val < 24 then (main_v1 : Ref sig .tc).dmaCredit S1x32x1024 .f32
  else if j.val < 26 then (main_v1 : Ref sig .tc).dmaCredit S1x64x1024 .f32
  else (main_v1 : Ref sig .tc).dmaCredit S1x128x1024 .f32

theorem amt_pos (j : Fin 27) : 0 < amt j := by
  unfold amt
  split
  · exact sig.dmaCredit_pos _ _ _ _ _ (by decide)
  · split <;> exact sig.dmaCredit_pos _ _ _ _ _ (by decide)

/-! ## Contents -/

/-- Device `c`'s block, -/
abbrev xLoc (c : Dev nD) : Loc nD τ sig := (Dev.tc c : Thread nD τ).loc main_arg0
/-- its result, -/
abbrev oLoc (c : Dev nD) : Loc nD τ sig := (Dev.tc c : Thread nD τ).loc main_v1

/-- The result of device `c`: each row from the block of the device that supplies it. -/
def W (c : Dev nD) : Buf (Elt F) (oLoc c) := fun i => m (xLoc (srcDev c (grain i).val)) i

/-- How much of a row message `j` takes along while it reads it: the messages along the ring take half, as the same rows
    go both ways; the others all. -/
def shr (j : Fin 27) : PosShare TreeShare :=
  if 8 ≤ j.val ∧ j.val < 16 then PosShare.left fullShare else if 16 ≤ j.val ∧ j.val < 24 then PosShare.right fullShare else fullShare

/-- Rows `s` of device `c`'s result, holding the result. -/
def done (c : Dev nD) (q : PosShare TreeShare) (s : Finset (⟨3, ![1, 1024, 1024]⟩ : Shape).Idx) : sProp 𝕄 :=
  (oLoc c) ↦[s]{q} W m c
/-- Rows `s` of device `c`'s block. -/
def blk (c : Dev nD) (s : Finset (⟨3, ![1, 1024, 1024]⟩ : Shape).Idx) : sProp 𝕄 :=
  (xLoc c) ↦[s]{fullShare} m (xLoc c)
/-- Rows `s` of device `c`'s result array, holding anything. -/
def room (c : Dev nD) (s : Finset (⟨3, ![1, 1024, 1024]⟩ : Shape).Idx) : sProp 𝕄 :=
  iprop(∃ f : Buf (Elt F) (oLoc c), (oLoc c) ↦[s]{fullShare} f)

/-- What message `j` of device `c` reads. -/
def srcRes (c : Dev nD) (j : Fin 27) : sProp 𝕄 := if kind j = 0 then blk m c (rows c j) else done m c (shr j) (rows c j)
/-- What message `j` leaves at device `c`. -/
def recvPay (c : Dev nD) (j : Fin 27) : sProp 𝕄 := done m c fullShare (inc c j)
/-- Where message `j` of device `c` is to be written. -/
def dstRes (c : Dev nD) (j : Fin 27) : sProp 𝕄 := room (F := F) (tgt c j) (rows c j)
/-- What the neighbour of kind `t` hands to device `c`: the rows of its result that `c` is to write. -/
def barPay (c : Dev nD) (t : Fin 3) : sProp 𝕄 := bigSep (Finset.univ.filter fun j => kind j = t) (dstRes (F := F) c)

instance done_storable (c : Dev nD) (q s) : BI.Storable (upEmb : UEmb _ 𝕄) (done (F := F) m c q s) := by unfold done; infer_instance
instance blk_storable (c : Dev nD) (s) : BI.Storable (upEmb : UEmb _ 𝕄) (blk (F := F) m c s) := by unfold blk; infer_instance
omit [FloatOps F] in
instance room_storable (c : Dev nD) (s) : BI.Storable (upEmb : UEmb _ 𝕄) (room (F := F) c s) := by unfold room; infer_instance

/-! ## The schedule -/

/-- One round, round 0: a barrier cell has a duty of one unit for each neighbour, a transfer cell the duty 0 of its message's credit. -/
def xRd : Rounds.Schedule (GSem nD τ sig) (Fin 3) 𝕄 where
  duties g r := if r = 0 ∧ g.1.2 = .tc then
      (match g.2 with
        | .reg s => if s = barS then Finset.univ else ∅
        | .dma q => if 1 ≤ q.val ∧ q.val < 55 then {0} else ∅)
    else ∅
  unitless _ := False
  amount g _ _ := match g.2 with
    | .reg _ => 1
    | .dma q => amt (msg q)
  payload g _ d := match g.2 with
    | .reg _ => barPay (F := F) g.1.1 d
    | .dma q => if q.val < 28 then srcRes m g.1.1 (msg q) else recvPay m g.1.1 (msg q)
  amount_pos g _ _ _ := by
    rcases g.2 with s | q
    · exact Nat.one_pos
    · exact amt_pos _

instance xRd_storable (g : GSem nD τ sig) (r : ℕ) (d : Fin 3) : BI.Storable (upEmb : UEmb _ 𝕄) ((xRd (F := F) m).payload g r d) := by
  obtain ⟨t, sm⟩ := g
  cases sm with
  | reg s => show BI.Storable upEmb (barPay (F := F) t.1 d); unfold barPay dstRes; infer_instance
  | dma q =>
    show BI.Storable upEmb (if q.val < 28 then srcRes m t.1 (msg q) else recvPay m t.1 (msg q))
    unfold srcRes recvPay
    (repeat' split) <;> infer_instance

section Sched
variable (c : Dev nD) (j : Fin 27)

theorem sendS_range : 1 ≤ (sendS j).val ∧ (sendS j).val < 55 := by
  have := j.isLt; show 1 ≤ 1 + j.val ∧ 1 + j.val < 55; omega
theorem recvS_range : 1 ≤ (recvS j).val ∧ (recvS j).val < 55 := by
  have := j.isLt; show 1 ≤ 28 + j.val ∧ 28 + j.val < 55; omega

omit [FloatOps F] in
theorem duties_bar : (xRd (F := F) m).duties (barCell c) 0 = Finset.univ := by dsimp only [xRd]; rw [if_pos ⟨rfl, rfl⟩, if_pos rfl]
omit [FloatOps F] in
theorem duties_send : (xRd (F := F) m).duties (sendCell c j) 0 = {0} := by
  dsimp only [xRd]; rw [if_pos ⟨rfl, rfl⟩, if_pos (sendS_range j)]
omit [FloatOps F] in
theorem duties_recv : (xRd (F := F) m).duties (recvCell c j) 0 = {0} := by
  dsimp only [xRd]; rw [if_pos ⟨rfl, rfl⟩, if_pos (recvS_range j)]
omit [FloatOps F] in
theorem duties_later (g : GSem nD τ sig) : ∀ r, 1 ≤ r → (xRd (F := F) m).duties g r = ∅ :=
  fun r hr => by dsimp only [xRd]; rw [if_neg fun h => by omega]

omit [FloatOps F] in
theorem amount_bar (d : Fin 3) : (xRd (F := F) m).amount (barCell c) 0 d = 1 := rfl
omit [FloatOps F] in
theorem amount_send (d : Fin 3) : (xRd (F := F) m).amount (sendCell c j) 0 d = amt j := by dsimp only [xRd]; rw [msg_sendS]
omit [FloatOps F] in
theorem amount_recv (d : Fin 3) : (xRd (F := F) m).amount (recvCell c j) 0 d = amt j := by dsimp only [xRd]; rw [msg_recvS]

omit [FloatOps F] in
theorem expect_bar : (xRd (F := F) m).expect (barCell c) 0 = 3 := by
  unfold Schedule.expect Schedule.amountOf
  rw [duties_bar, Finset.sum_congr rfl fun d _ => amount_bar m c d, Finset.sum_const, Finset.card_univ, Fintype.card_fin, smul_eq_mul]
omit [FloatOps F] in
theorem expect_send : (xRd (F := F) m).expect (sendCell c j) 0 = amt j := by
  unfold Schedule.expect Schedule.amountOf; rw [duties_send, Finset.sum_singleton, amount_send]
omit [FloatOps F] in
theorem expect_recv : (xRd (F := F) m).expect (recvCell c j) 0 = amt j := by
  unfold Schedule.expect Schedule.amountOf; rw [duties_recv, Finset.sum_singleton, amount_recv]

omit [FloatOps F] in
theorem payload_bar (d : Fin 3) : (xRd (F := F) m).payload (barCell c) 0 d = barPay (F := F) c d := rfl
omit [FloatOps F] in
theorem payload_send (d : Fin 3) : (xRd (F := F) m).payload (sendCell c j) 0 d = srcRes m c j := by
  dsimp only [xRd]; rw [if_pos (by have := j.isLt; show 1 + j.val < 28; omega), msg_sendS]
omit [FloatOps F] in
theorem payload_recv (d : Fin 3) : (xRd (F := F) m).payload (recvCell c j) 0 d = recvPay m c j := by
  dsimp only [xRd]; rw [if_neg (by show ¬ 28 + j.val < 28; omega), msg_recvS]

omit [FloatOps F] in
/-- The barrier's round hands over what all three neighbours give. -/
theorem rest_bar : bigSep ((xRd (F := F) m).duties (barCell c) 0 \ ∅) (fun d => (xRd (F := F) m).payload (barCell c) 0 d)
    = bigSep Finset.univ (barPay (F := F) c) := by
  rw [Finset.sdiff_empty, duties_bar]; rfl
omit [FloatOps F] in
theorem rest_send : bigSep ((xRd (F := F) m).duties (sendCell c j) 0 \ ∅) (fun d => (xRd (F := F) m).payload (sendCell c j) 0 d) = srcRes m c j := by
  rw [Finset.sdiff_empty, duties_send, bigSep_singleton, payload_send]
omit [FloatOps F] in
theorem rest_recv : bigSep ((xRd (F := F) m).duties (recvCell c j) 0 \ ∅) (fun d => (xRd (F := F) m).payload (recvCell c j) 0 d) = recvPay m c j := by
  rw [Finset.sdiff_empty, duties_recv, bigSep_singleton, payload_recv]

end Sched

/-! ## What a device owes, and the levels -/

/-- What device `c` owes while the messages `a` are still to be sent. -/
def owed (c : Dev nD) : List (Fin 27) → CellTallies nD τ sig Unit
  | [] => 0
  | j :: a => owed c a + tallyAt (recvCell (tgt c j) j) () (amt j)

/-- and while the barrier units for the neighbours `l` are. -/
def owedBar (c : Dev nD) (O : CellTallies nD τ sig Unit) : List (Fin 3) → CellTallies nD τ sig Unit
  | [] => O
  | t :: l => owedBar c O l + tallyAt (barCell (nbr t c)) () 1

def L (g : GSem nD τ sig) : Finset Unit := if g.1.2 = .tc then {()} else ∅

/-- The level of message `j`'s arrival: what the partner sends, then what goes along the ring, then what is passed on. -/
def lvm (j : Fin 27) : ℕ := if j.val < 8 ∨ j.val = 26 then 2 else if j.val < 24 then 3 else 4
/-- The levels of the cells: the barrier below all arrivals, everything else at the bottom. -/
def lv (g : GSem nD τ sig) (_ : Unit) : ℕ := match g.2 with
  | .reg _ => 1
  | .dma q => if 28 ≤ q.val ∧ q.val < 55 then lvm (msg q) else 0

theorem L_of_ne (g : GSem nD τ sig) (h : g.1.2 ≠ .tc) : L g = ∅ := if_neg h
theorem L_tc (c : Dev nD) (sm : SemLoc sig) : L (c.tc, sm) = {()} := if_pos rfl
theorem lv_recv (c : Dev nD) (j : Fin 27) : lv (recvCell c j) () = lvm j := by
  dsimp only [lv]
  rw [if_pos (by have := j.isLt; show 28 ≤ 28 + j.val ∧ 28 + j.val < 55; omega), msg_recvS]
theorem lvm_ge (j : Fin 27) : 2 ≤ lvm j := by unfold lvm; (repeat' split) <;> omega

theorem owed_pos {c : Dev nD} {g : GSem nD τ sig} {u : Unit} : ∀ {a : List (Fin 27)}, 0 < owed c a g u → ∃ j ∈ a, g = recvCell (tgt c j) j
  | [], h => absurd h (Nat.lt_irrefl 0)
  | j :: a, h => by
    unfold owed at h
    rw [Pi.add_apply, Finsupp.add_apply, tallyAt_apply] at h
    by_cases hj : g = recvCell (tgt c j) j ∧ u = ()
    · exact ⟨j, List.mem_cons_self, hj.1⟩
    · rw [if_neg hj, Nat.add_zero] at h
      obtain ⟨j', hj', hg⟩ := owed_pos h
      exact ⟨j', List.mem_cons_of_mem _ hj', hg⟩

theorem owedBar_pos {c : Dev nD} {O : CellTallies nD τ sig Unit} {g : GSem nD τ sig} {u : Unit} :
    ∀ {l : List (Fin 3)}, 0 < owedBar c O l g u → 0 < O g u ∨ ∃ t, g = barCell (nbr t c)
  | [], h => .inl h
  | t :: l, h => by
    unfold owedBar at h
    rw [Pi.add_apply, Finsupp.add_apply, tallyAt_apply] at h
    by_cases ht : g = barCell (nbr t c) ∧ u = ()
    · exact .inr ⟨t, ht.1⟩
    · rw [if_neg ht, Nat.add_zero] at h
      exact owedBar_pos h

omit [FloatOps F] in
/-- A wait for a cell below the arrivals of all messages still to be sent is allowed. -/
theorem mayWait_lt (c : Dev nD) (sm : SemLoc sig) (a : List (Fin 27)) (h : ∀ j ∈ a, lv (c.tc, sm) () < lvm j) :
    (levAts L lv : sProp 𝕄) ⊢ MayWait c.tc sm () (owed c a) :=
  MayOwe.of_cut (L := L) (lev := lv) (lv (c.tc, sm) ())
    (fun p hp => by rw [Finset.mem_singleton.mp hp, L_tc]; exact Finset.mem_singleton_self _)
    (fun g u hg => by obtain ⟨j, _, rfl⟩ := owed_pos hg; exact Finset.mem_singleton_self _)
    (fun p hp => by rw [Finset.mem_singleton.mp hp])
    (fun g u hg => by obtain ⟨j, hj, rfl⟩ := owed_pos hg; rw [lv_recv]; exact h j hj)

omit [FloatOps F] in
/-- A wait at the bottom is allowed at launch. -/
theorem mayWait_stage (c : Dev nD) (q : DmaSem sig) (hq : lv (c.tc, .dma q) () = 0) (a : List (Fin 27)) (l : List (Fin 3)) :
    (levAts L lv : sProp 𝕄) ⊢ MayWait c.tc (.dma q) () (owedBar c (owed c a) l) :=
  MayOwe.of_cut (L := L) (lev := lv) 0
    (fun p hp => by rw [Finset.mem_singleton.mp hp, L_tc]; exact Finset.mem_singleton_self _)
    (fun g u hg => by
      rcases owedBar_pos hg with h | ⟨t, rfl⟩
      · obtain ⟨j, _, rfl⟩ := owed_pos h; exact Finset.mem_singleton_self _
      · exact Finset.mem_singleton_self _)
    (fun p hp => by rw [Finset.mem_singleton.mp hp, hq])
    (fun g u hg => by
      rcases owedBar_pos hg with h | ⟨t, rfl⟩
      · obtain ⟨j, _, rfl⟩ := owed_pos h; rw [lv_recv]; have := lvm_ge j; omega
      · exact Nat.one_pos)

end Cert.KernelIdealProof

end
-- ==== Proof.KernelIdealSteps.lean ====
/-
What a device holds in the middle of the exchange, and one rule for each kind of step: starting a message, waiting for
an arrival, waiting for a departure; and how what has arrived becomes what is passed on.
-/
module

public import proofs.«01_k».proof.Proof.KernelIdealSched

@[expose] public section

noncomputable section

namespace Cert.KernelIdealProof

open Cert.KernelIdeal Cert.KernelIdeal.Gen Cert.Mesh Cert.Lists

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## The records everybody knows -/

/-- Every cell follows the schedule, and its round 0 is open. -/
def records (K : Dev nD × CI → ℕ) : sProp 𝕄 :=
  iprop((bigSep Finset.univ fun ck : Dev nD × CI => cellInv ER (xRd m) (K ck) (kcell ck))
    ∗ bigSep Finset.univ fun ck : Dev nD × CI => reached ER (kcell ck) 0)

instance records_persistent (K : Dev nD × CI → ℕ) : BI.Persistent (records (F := F) m K) := by unfold records; infer_instance

omit [FloatOps F] in
theorem inv_at (K : Dev nD × CI → ℕ) (ck : Dev nD × CI) :
    (bigSep Finset.univ fun ck : Dev nD × CI => (cellInv ER (xRd m) (K ck) (kcell ck) : sProp 𝕄)) ⊢ cellInv ER (xRd m) (K ck) (kcell ck) :=
  bigSep_elim (Finset.mem_univ ck)
omit [FloatOps F] in
theorem reached_at (ck : Dev nD × CI) :
    (bigSep Finset.univ fun ck : Dev nD × CI => (reached ER (kcell ck) 0 : sProp 𝕄)) ⊢ reached ER (kcell ck) 0 :=
  bigSep_elim (Finset.mem_univ ck)

omit [FloatOps F] in
theorem records_inv (K : Dev nD × CI → ℕ) (ck : Dev nD × CI) : records (F := F) m K ⊢ cellInv ER (xRd m) (K ck) (kcell ck) := by
  unfold records
  iintro ⟨#HI, #HR⟩
  iapply (inv_at m K ck); iexact HI
omit [FloatOps F] in
theorem records_reached (K : Dev nD × CI → ℕ) (ck : Dev nD × CI) : records (F := F) m K ⊢ reached ER (kcell ck) 0 := by
  unfold records
  iintro ⟨#HI, #HR⟩
  iapply (reached_at (F := F) ck); iexact HR

/-! ## The rows of a slice -/

abbrev xM : Memref sig .tc .hbm S1x1024x1024 .f32 := Memref.whole main_arg0
abbrev oM : Memref sig .tc .hbm S1x1024x1024 .f32 := Memref.whole main_v1

/-- A slice of `32 * n` rows from row `32 * a` covers the `n` grains from `a`. -/
theorem unit_set {off sz : Fin 3 → ℕ} {inb : ∀ x, off x + sz x ≤ S1x1024x1024.size x} {a n : ℕ}
    (hoff : off = ![0, 32 * a, 0]) (hsz : sz = ![1, 32 * n, 1024]) : (Rect.unit (s := S1x1024x1024) off sz inb).set = grains a n := by
  subst hoff hsz
  ext i
  rw [Rect.mem_set_unit, mem_grains]
  have h0 : (i 0).val < 1 := (i 0).isLt
  have h2 : (i 2).val < 1024 := (i 2).isLt
  constructor
  · intro h
    have h1 : 32 * a ≤ (i 1).val ∧ (i 1).val < 32 * a + 32 * n := h 1
    omega
  · intro h x
    have h1 : 32 * a ≤ (i 1).val ∧ (i 1).val < 32 * a + 32 * n := by omega
    match x with
    | 0 => exact ⟨Nat.zero_le _, by show (i 0).val < 0 + 1; omega⟩
    | 1 => exact h1
    | 2 => exact ⟨Nat.zero_le _, by show (i 2).val < 0 + 1024; omega⟩

section Slices
variable {off sz : Fin 3 → ℕ} {inb : ∀ x, off x + sz x ≤ S1x1024x1024.size x} {hs : ∀ x, (Rect.unit (s := S1x1024x1024) off sz inb).stride x = 1}
  {a n : ℕ} (hoff : off = ![0, 32 * a, 0]) (hsz : sz = ![1, 32 * n, 1024])
include hoff hsz

theorem x_set : (xM.slice (Rect.unit (s := S1x1024x1024) off sz inb) hs).view.set = grains a n :=
  (View.set_slice_whole main_arg0 _).trans (unit_set hoff hsz)
theorem o_set : (oM.slice (Rect.unit (s := S1x1024x1024) off sz inb) hs).view.set = grains a n :=
  (View.set_slice_whole main_v1 _).trans (unit_set hoff hsz)

omit [FloatOps F] in
/-- Writing rows of a block to the same rows of a result leaves the block's values there. -/
theorem land_x (c c' : Dev nD) (f : Buf (Elt F) (xLoc c)) (g : Buf (Elt F) (oLoc c')) {i : (⟨3, ![1, 1024, 1024]⟩ : Shape).Idx} (hi : i ∈ grains a n) :
    (oM.slice (Rect.unit (s := S1x1024x1024) off sz inb) hs).view.write (Elt F) g
      ((xM.slice (Rect.unit (s := S1x1024x1024) off sz inb) hs).view.read (Elt F) f) Finset.univ i = f i := by
  rw [← o_set (hs := hs) hoff hsz] at hi
  obtain ⟨x, -, rfl⟩ := Finset.mem_map.mp hi
  rw [View.write_emb_of_mem _ _ (Finset.mem_univ x), View.read_apply, cast_cast, cast_eq]
  rfl
omit [FloatOps F] in
/-- Writing rows of a result to the same rows of another leaves the first one's values there. -/
theorem land_o (c c' : Dev nD) (f : Buf (Elt F) (oLoc c)) (g : Buf (Elt F) (oLoc c')) {i : (⟨3, ![1, 1024, 1024]⟩ : Shape).Idx} (hi : i ∈ grains a n) :
    (oM.slice (Rect.unit (s := S1x1024x1024) off sz inb) hs).view.write (Elt F) g
      ((oM.slice (Rect.unit (s := S1x1024x1024) off sz inb) hs).view.read (Elt F) f) Finset.univ i = f i := by
  rw [← o_set (hs := hs) hoff hsz] at hi
  obtain ⟨x, -, rfl⟩ := Finset.mem_map.mp hi
  rw [View.write_emb_of_mem _ _ (Finset.mem_univ x), View.read_apply, cast_cast, cast_eq]
end Slices

/-! ## How much a slice's transfer credits -/

section Credit
variable {off sz : Fin 3 → ℕ} {inb : ∀ x, off x + sz x ≤ S1x1024x1024.size x} {hs : ∀ x, (Rect.unit (s := S1x1024x1024) off sz inb).stride x = 1}

/-- A transfer into a slice of the result with as many rows as message `j` credits that message's amount. -/
theorem credit_o (j : Fin 27) (hsz : sz = ![1, 32 * len j, 1024]) : (oM.slice (Rect.unit (s := S1x1024x1024) off sz inb) hs).view.dmaCredit = amt j := by
  have h1 : (oM.slice (Rect.unit (s := S1x1024x1024) off sz inb) hs).view.dmaCredit = (main_v1 : Ref sig .tc).dmaCredit ⟨3, sz⟩ .f32 := rfl
  rw [h1]
  subst hsz
  unfold amt len
  split
  · exact congrArg (fun s => (main_v1 : Ref sig .tc).dmaCredit s .f32) (show (⟨3, ![1, 32 * 1, 1024]⟩ : Shape) = S1x32x1024 from rfl)
  · split
    · exact congrArg (fun s => (main_v1 : Ref sig .tc).dmaCredit s .f32) (show (⟨3, ![1, 32 * 2, 1024]⟩ : Shape) = S1x64x1024 from rfl)
    · exact congrArg (fun s => (main_v1 : Ref sig .tc).dmaCredit s .f32) (show (⟨3, ![1, 32 * 4, 1024]⟩ : Shape) = S1x128x1024 from rfl)

/-- Block and result are of one type: their slices credit alike. -/
theorem credit_same (s : Shape) : (main_arg0 : Ref sig .tc).dmaCredit s .f32 = (main_v1 : Ref sig .tc).dmaCredit s .f32 := rfl
/-- The same of a slice of the block. -/
theorem credit_x (j : Fin 27) (hsz : sz = ![1, 32 * len j, 1024]) : (xM.slice (Rect.unit (s := S1x1024x1024) off sz inb) hs).view.dmaCredit = amt j :=
  Eq.trans rfl ((credit_same _).trans (credit_o (off := off) (inb := inb) (hs := hs) j hsz))
end Credit

omit [FloatOps F] in
/-- What the partner is to get of a row of the sender's block is the block's value. -/
theorem W_part (c : Dev nD) {j : Fin 27} (hj : kind j = 0) {i} (hi : i ∈ rows c j) : W m (tgt c j) i = m (xLoc c) i := by
  unfold W; rw [srcDev_part c j (grain i) hj (mem_rows.mp hi)]
omit [FloatOps F] in
/-- What a neighbour on the ring is to get of a row is what the sender has. -/
theorem W_ring (c : Dev nD) {j : Fin 27} (hj : kind j ≠ 0) {i} (hi : i ∈ rows c j) : W m (tgt c j) i = W m c i := by
  unfold W; rw [srcDev_ring c j (grain i) hj (mem_rows.mp hi)]

/-! ## What a device holds -/

/-- The right to send message `j`: to pay its two cells and to write where it goes. -/
def pay (c : Dev nD) (j : Fin 27) : sProp 𝕄 :=
  iprop(dutyTok ER (sendCell c j) 0 0 ∗ dutyTok ER (recvCell (tgt c j) j) 0 0 ∗ dstRes (F := F) c j)
/-- A message on its way out, to be waited for. -/
def gone (c : Dev nD) (j : Fin 27) : sProp 𝕄 := cred (tallyAt (sendCell c j) () (amt j))
/-- A message expected. -/
def due (c : Dev nD) (j : Fin 27) : sProp 𝕄 := iprop(atPos ER (recvCell c j) 0 ∅ 0 ∗ cred (tallyAt (recvCell c j) () (amt j)))
/-- A message that has left: what it read, and its send cell at rest. -/
def left (c : Dev nD) (j : Fin 27) : sProp 𝕄 := iprop(srcRes m c j ∗ semVal (sendCell c j) 0)

variable (K : Dev nD × CI → ℕ)

/-- What device `c` holds when the messages `a` are still to be sent, `b` are on their way out, the rows for `x` are ready
    to be read, `r` are expected, `z` have arrived, `g` of these not passed on, `w` have not been seen leaving and `h` have. -/
def St (c : Dev nD) (a b x r z g w h : List (Fin 27)) : sProp 𝕄 :=
  iprop(records m K ∗ levAts L lv ∗ (∃ W, owes c.tc (owed c a) W) ∗ sepList (pay (F := F) c) a ∗ sepList (gone (F := F) c) b
    ∗ sepList (srcRes m c) x ∗ sepList (due (F := F) c) r ∗ sepList (fun j => semVal (recvCell c j) 0) z ∗ sepList (recvPay m c) g
    ∗ sepList (fun j => atPos ER (sendCell c j) 0 ∅ 0) w ∗ sepList (left m c) h)

variable {a b x r z g w h : List (Fin 27)}

/-- Waiting for the arrival of message `j`: it has a lower level than all messages still to be sent. -/
theorem st_recv {α : Type} {Q : α → sProp 𝕄} {k : PUnit → Prog (TpuEff nD τ sig (Elt F) Λ₀ .tc) α} (c : Dev nD) (j : Fin 27) {s : DmaSem sig} (hs : s = recvS j)
    {sp sp' : Space} {sh sh' : Shape} {e e' : EltTy} {src : Memref sig .tc sp' sh' e'} {dst : Memref sig .tc sp sh e}
    {h₁ : src.view.WordExact} {h₂ : dst.view.WordExact} (hN : dst.view.dmaCredit = amt j) (hlt : ∀ j' ∈ a, lvm j < lvm j')
    (next : St m K c a b x r (j :: z) (j :: g) w h ⊢ wp frame (wpE (defs₀ (F := F)) 𝒱₀ c.tc none) Set.univ (k ⟨⟩) Q) :
    St m K c a b x (j :: r) z g w h
      ⊢ wp frame (wpE (defs₀ (F := F)) 𝒱₀ c.tc none) Set.univ (.op (.waitDma2 s src dst h₁ h₂) k) Q := by
  subst hs
  unfold St at next ⊢
  dsimp only [sepList] at next ⊢
  unfold due at next ⊢
  have hk : 0 + dst.view.dmaCredit = (xRd (F := F) m).expect (recvCell c j) 0 := by rw [Nat.zero_add, expect_recv]; exact hN
  have hl : ∀ j' ∈ a, lv (recvCell c j) () < lvm j' := by rw [lv_recv]; exact hlt
  iintro ⟨#HR, #Hlev, ⟨%W, HO⟩, Ha, Hb, Hx, ⟨⟨Hat, Hc⟩, Hr⟩, Hz, Hg, Hw, Hh⟩
  iapply (Rounds.wp_wait_rest_token 𝒱₀ ER (xRd m) (c.tc : Thread nD τ) none (κ := K (c, .inr (.inr j)))
      (wpE_waitDma2_eq 𝒱₀ (c.tc : Thread nD τ) none Set.univ) (Set.mem_univ _) () (O := owed c a) (W := W) (R := 0) (m := 0) (T := ∅)
      hk) $$ [Hc HO Hat]
  · isplitr; · iapply (records_inv m K (c, .inr (.inr j))); iexact HR
    isplitl [Hc]; · rw [hN]; iexact Hc
    isplitl [HO]; · iexact HO
    isplitr
    · iapply (mayWait_lt (F := F) c (.dma (recvS j)) a hl); iexact Hlev
    iexact Hat
  iintro ⟨HO, Hat, -, Hpay⟩
  ihave Hp := (Entails.of_eq (rest_recv m c j)) $$ Hpay
  imod (Rounds.cell_close ER (xRd m) (Set.mem_univ (K (c, .inr (.inr j)))) (fun h => h) (R := 0 + 1) (duties_later m (recvCell c j))) $$ [Hat] with Hz0
  · isplitr; · iapply (records_inv m K (c, .inr (.inr j))); iexact HR
    iexact Hat
  iapply next
  isplitr; · iexact HR
  isplitr; · iexact Hlev
  isplitl [HO]; · iexists _; iexact HO
  isplitl [Ha]; · iexact Ha
  isplitl [Hb]; · iexact Hb
  isplitl [Hx]; · iexact Hx
  isplitl [Hr]; · iexact Hr
  isplitl [Hz Hz0]
  · isplitl [Hz0] <;> iassumption
  isplitl [Hg Hp]
  · isplitl [Hp] <;> iassumption
  isplitl [Hw] <;> iassumption

/-- Waiting for message `j` to have left, nothing owed any more: what it read is back. -/
theorem st_sent {α : Type} {Q : α → sProp 𝕄} {k : PUnit → Prog (TpuEff nD τ sig (Elt F) Λ₀ .tc) α} (c : Dev nD) (j : Fin 27) {s : DmaSem sig} (hs : s = sendS j)
    {sp sp' : Space} {sh sh' : Shape} {e e' : EltTy} {src : Memref sig .tc sp' sh' e'} {dst : Memref sig .tc sp sh e}
    {h₁ : src.view.WordExact} {h₂ : dst.view.WordExact} (hN : dst.view.dmaCredit = amt j)
    (next : St m K c [] b x r z g w (j :: h) ⊢ wp frame (wpE (defs₀ (F := F)) 𝒱₀ c.tc none) Set.univ (k ⟨⟩) Q) :
    St m K c [] (j :: b) x r z g (j :: w) h
      ⊢ wp frame (wpE (defs₀ (F := F)) 𝒱₀ c.tc none) Set.univ (.op (.waitDma2 s src dst h₁ h₂) k) Q := by
  subst hs
  unfold St at next ⊢
  dsimp only [sepList, owed] at next ⊢
  unfold gone left at next ⊢
  have hk : 0 + dst.view.dmaCredit = (xRd (F := F) m).expect (sendCell c j) 0 := by rw [Nat.zero_add, expect_send]; exact hN
  iintro ⟨#HR, #Hlev, ⟨%W, HO⟩, Ha, ⟨Hc, Hb⟩, Hx, Hr, Hz, Hg, ⟨Hat, Hw⟩, Hh⟩
  iapply (Rounds.wp_wait_rest_token 𝒱₀ ER (xRd m) (c.tc : Thread nD τ) none (κ := K (c, .inr (.inl j)))
      (wpE_waitDma2_eq 𝒱₀ (c.tc : Thread nD τ) none Set.univ) (Set.mem_univ _) () (O := 0) (W := W) (R := 0) (m := 0) (T := ∅)
      hk) $$ [Hc HO Hat]
  · isplitr; · iapply (records_inv m K (c, .inr (.inl j))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_send m c j)) $$ Hpay
  imod (Rounds.cell_close ER (xRd m) (Set.mem_univ (K (c, .inr (.inl j)))) (fun h => h) (R := 0 + 1) (duties_later m (sendCell c j))) $$ [Hat] with Hz0
  · isplitr; · iapply (records_inv m K (c, .inr (.inl j))); iexact HR
    iexact Hat
  iapply next
  isplitr; · iexact HR
  isplitr; · iexact Hlev
  isplitl [HO]; · iexists _; iexact HO
  isplitl [Ha]; · iexact Ha
  isplitl [Hb]; · iexact Hb
  isplitl [Hx]; · iexact Hx
  isplitl [Hr]; · iexact Hr
  isplitl [Hz]; · iexact Hz
  isplitl [Hg]; · iexact Hg
  isplitl [Hw]; · iexact Hw
  isplitl [Hp Hz0]
  · isplitl [Hp] <;> iassumption
  iexact Hh

/-- Starting a transfer whose source `src` holds `f`: the general form of the two rules after it. -/
theorem st_start {α : Type} {Q : α → sProp 𝕄} {k : PUnit → Prog (TpuEff nD τ sig (Elt F) Λ₀ .tc) α} (c n : Dev nD) (j : Fin 27) (hn : n = tgt c j)
    {s₁ s₂ : DmaSem sig} (hs₁ : s₁ = sendS j) (hs₂ : s₂ = recvS j)
    {sp sp' : Space} {sh : Shape} {e : EltTy} {src : Memref sig (Dev.tc c : Thread nD τ).2.kind sp sh e} {dst : Memref sig (Dev.tc n : Thread nD τ).2.kind sp' sh e}
    {hsc : dst.view.ref.isScScratch = false} {h₁ : src.view.WordExact} {h₂ : dst.view.WordExact}
    {h₃ : DmaTarget.Typed sp (.dma s₂) (.remote (Dev.tc n : Thread nD τ) dst (.dma s₁) hsc)}
    (hN : dst.view.dmaCredit = amt j) (q : PosShare TreeShare) (f : Buf (Elt F) (src.view.loc (Dev.tc c : Thread nD τ)))
    (hsrc : srcRes m c j = iprop(src.view.loc (Dev.tc c : Thread nD τ) ↦[src.view.set]{q} f))
    (hdst : room (F := F) n (rows c j)
      = iprop(∃ g : Buf (Elt F) (dst.view.loc (Dev.tc n : Thread nD τ)), dst.view.loc (Dev.tc n : Thread nD τ) ↦[dst.view.set]{fullShare} g))
    (hland : ∀ g : Buf (Elt F) (dst.view.loc (Dev.tc n : Thread nD τ)),
      (dst.view.loc (Dev.tc n : Thread nD τ) ↦[dst.view.set]{fullShare} dst.view.write (Elt F) g (src.view.read (Elt F) f) Finset.univ : sProp 𝕄)
        = done m n fullShare (rows c j))
    (next : St m K c a (j :: b) x r z g w h ⊢ wp frame (wpE (defs₀ (F := F)) 𝒱₀ c.tc none) Set.univ (k ⟨⟩) Q) :
    St m K c (j :: a) b (j :: x) r z g w h
      ⊢ wp frame (wpE (defs₀ (F := F)) 𝒱₀ c.tc none) Set.univ
          (.op (.enqueueDma src (.remote (Dev.tc n : Thread nD τ) dst (.dma s₁) hsc) (.dma s₂) h₁ h₂ h₃) k) Q := by
  subst hs₁ hs₂ hn
  unfold St at next ⊢
  dsimp only [sepList, owed] at next ⊢
  unfold pay gone at next ⊢
  unfold dstRes at next ⊢
  rw [hsrc, hdst]
  iintro ⟨#HR, #Hlev, ⟨%W, HO⟩, ⟨⟨Ht₁, Ht₂, ⟨%fd, Hd⟩⟩, Ha⟩, Hb, ⟨Hs, Hx⟩, Hr, Hz, Hg, Hw, Hh⟩
  iapply (Rounds.wp_send_pointsTo 𝒱₀ ER (xRd m) (c.tc : Thread nD τ) none (κ₁ := K (c, .inr (.inl j))) (κ₂ := K (tgt c j, .inr (.inr j)))
    (sS := .dma (sendS j)) (sem := .dma (recvS j)) (r₁ := 0) (r₂ := 0) (d₁ := 0) (d₂ := 0) (fd := fd)
    (by rw [duties_send]; exact Finset.mem_singleton_self _) (by rw [duties_recv]; exact Finset.mem_singleton_self _)
    () () (amt j) hN (amount_send m c j 0) (amount_recv m (tgt c j) j 0) (owed c a) rfl (W := W)
    (by rw [payload_send, hsrc])
    (by rw [payload_recv, hland]; unfold recvPay; rw [inc_tgt])) $$ [Hs Hd HO Ht₁ Ht₂]
  · isplitr; · iapply (records_inv m K (c, .inr (.inl j))); iexact HR
    isplitr; · iapply (records_inv m K (tgt c j, .inr (.inr j))); iexact HR
    isplitl [Hs]; · iexact Hs
    isplitl [Hd]; · iexact Hd
    isplitl [HO]; · iexact HO
    isplitl [Ht₁]; · iexact Ht₁
    isplitr; · iapply (records_reached m K (c, .inr (.inl j))); iexact HR
    isplitl [Ht₂]; · iexact Ht₂
    iapply (records_reached m K (tgt c j, .inr (.inr j))); iexact HR
  iintro ⟨Hc, HO⟩
  iapply next
  isplitr; · iexact HR
  isplitr; · iexact Hlev
  isplitl [HO]; · iexists _; iexact HO
  isplitl [Ha]; · iexact Ha
  isplitl [Hc Hb]
  · isplitl [Hc] <;> iassumption
  isplitl [Hx]; · iexact Hx
  isplitl [Hr]; · iexact Hr
  isplitl [Hz]; · iexact Hz
  isplitl [Hg]; · iexact Hg
  isplitl [Hw] <;> iassumption

section Start
variable {offF : Dev nD → Fin 3 → ℕ} {sz : Fin 3 → ℕ} {nv : Dev nD → ℕ}

/-- Starting message `j` to the partner: the rows come from the device's block. -/
theorem st_start_x {α : Type} {Q : α → sProp 𝕄} {k : PUnit → Prog (TpuEff nD τ sig (Elt F) Λ₀ .tc) α} (c : Dev nD) (j : Fin 27)
    {inb : ∀ x, offF c x + sz x ≤ S1x1024x1024.size x} {hst hst' : ∀ x, (Rect.unit (s := S1x1024x1024) (offF c) sz inb).stride x = 1}
    {hlt : nv c < nD} {s₁ s₂ : DmaSem sig}
    {hsc h₁ h₂ h₃}
    (hj : kind j = 0) (hoff : ∀ c, offF c = ![0, 32 * lo c j, 0]) (hsz : sz = ![1, 32 * len j, 1024]) (hn : ∀ c, nv c = (tgt c j).val)
    (hs₁ : s₁ = sendS j) (hs₂ : s₂ = recvS j)
    (next : St m K c a (j :: b) x r z g w h ⊢ wp frame (wpE (defs₀ (F := F)) 𝒱₀ c.tc none) Set.univ (k ⟨⟩) Q) :
    St m K c (j :: a) b (j :: x) r z g w h
      ⊢ wp frame (wpE (defs₀ (F := F)) 𝒱₀ c.tc none) Set.univ
          (.op (.enqueueDma (xM.slice (Rect.unit (s := S1x1024x1024) (offF c) sz inb) hst')
            (.remote (Dev.tc (⟨nv c, hlt⟩ : Dev nD) : Thread nD τ) (oM.slice (Rect.unit (s := S1x1024x1024) (offF c) sz inb) hst) (.dma s₁) hsc)
            (.dma s₂) h₁ h₂ h₃) k) Q := by
  have hset := x_set (inb := inb) (hs := hst') (hoff c) hsz
  have hset' := o_set (inb := inb) (hs := hst) (hoff c) hsz
  have hnt : (⟨nv c, hlt⟩ : Dev nD) = tgt c j := Fin.ext (hn c)
  have hN := credit_o (inb := inb) (hs := hst) j hsz
  refine st_start m K c _ j hnt hs₁ hs₂ hN fullShare (m (xLoc c)) ?_ ?_ (fun g => ?_) next
  · unfold srcRes blk; rw [if_pos hj, hset]; rfl
  · unfold room; rw [hset']; rfl
  · unfold done
    rw [hset']
    refine pointsTo_congr fun i hi => ?_
    rw [hnt]
    exact (land_x (inb := inb) (hs := hst) (hoff c) hsz c _ (m (xLoc c)) g hi).trans (W_part m c hj hi).symm

/-- Starting message `j` along the ring: the rows come from the device's result. -/
theorem st_start_o {α : Type} {Q : α → sProp 𝕄} {k : PUnit → Prog (TpuEff nD τ sig (Elt F) Λ₀ .tc) α} (c : Dev nD) (j : Fin 27)
    {inb : ∀ x, offF c x + sz x ≤ S1x1024x1024.size x} {hst hst' : ∀ x, (Rect.unit (s := S1x1024x1024) (offF c) sz inb).stride x = 1}
    {hlt : nv c < nD} {s₁ s₂ : DmaSem sig}
    {hsc h₁ h₂ h₃}
    (hj : kind j ≠ 0) (hoff : ∀ c, offF c = ![0, 32 * lo c j, 0]) (hsz : sz = ![1, 32 * len j, 1024]) (hn : ∀ c, nv c = (tgt c j).val)
    (hs₁ : s₁ = sendS j) (hs₂ : s₂ = recvS j)
    (next : St m K c a (j :: b) x r z g w h ⊢ wp frame (wpE (defs₀ (F := F)) 𝒱₀ c.tc none) Set.univ (k ⟨⟩) Q) :
    St m K c (j :: a) b (j :: x) r z g w h
      ⊢ wp frame (wpE (defs₀ (F := F)) 𝒱₀ c.tc none) Set.univ
          (.op (.enqueueDma (oM.slice (Rect.unit (s := S1x1024x1024) (offF c) sz inb) hst')
            (.remote (Dev.tc (⟨nv c, hlt⟩ : Dev nD) : Thread nD τ) (oM.slice (Rect.unit (s := S1x1024x1024) (offF c) sz inb) hst) (.dma s₁) hsc)
            (.dma s₂) h₁ h₂ h₃) k) Q := by
  have hset := o_set (inb := inb) (hs := hst) (hoff c) hsz
  have hnt : (⟨nv c, hlt⟩ : Dev nD) = tgt c j := Fin.ext (hn c)
  have hN := credit_o (inb := inb) (hs := hst) j hsz
  refine st_start m K c _ j hnt hs₁ hs₂ hN (shr j) (W m c) ?_ ?_ (fun g => ?_) next
  · unfold srcRes done; rw [if_neg hj, hset]; rfl
  · unfold room; rw [hset]; rfl
  · unfold done
    rw [hset]
    refine pointsTo_congr fun i hi => ?_
    rw [hnt]
    exact (land_o (inb := inb) (hs := hst) (hoff c) hsz c _ (W m c) g hi).trans (W_ring m c hj hi).symm
end Start

/-! ## What has arrived is passed on -/

theorem chunk_kind : ∀ i : Fin 8, kind ⟨8 + i.val, by omega⟩ ≠ 0 ∧ kind ⟨16 + i.val, by omega⟩ ≠ 0 := by decide
theorem chunk_len : ∀ i : Fin 8, len ⟨i.val, by omega⟩ = 1 ∧ len ⟨8 + i.val, by omega⟩ = 1 ∧ len ⟨16 + i.val, by omega⟩ = 1 := by decide

omit [FloatOps F] in
/-- Chunk `k` from the partner is what both messages of chunk `k` along the ring read, a half each. -/
theorem fan_res (c : Dev nD) (i : Fin 8) {j j₁ j₂ : Fin 27} (h : j.val = i.val) (h₁ : j₁.val = 8 + i.val) (h₂ : j₂.val = 16 + i.val) :
    recvPay m c j ⊣⊢ iprop(srcRes m c j₁ ∗ srcRes m c j₂) := by
  obtain rfl : j = ⟨i.val, i.isLt.trans_le (by decide)⟩ := Fin.ext h
  obtain rfl : j₁ = ⟨8 + i.val, (Nat.add_lt_add_left i.isLt 8).trans_le (by decide)⟩ := Fin.ext h₁
  obtain rfl : j₂ = ⟨16 + i.val, (Nat.add_lt_add_left i.isLt 16).trans_le (by decide)⟩ := Fin.ext h₂
  have hk₁ := fun i => (chunk_kind i).1
  have hk₂ := fun i => (chunk_kind i).2
  have hl := chunk_len
  have hq₁ : shr ⟨8 + i.val, by omega⟩ = PosShare.left fullShare := if_pos ⟨Nat.le_add_right _ _, by show 8 + i.val < 16; omega⟩
  have hq₂ : shr ⟨16 + i.val, by omega⟩ = PosShare.right fullShare := by
    unfold shr; rw [if_neg (fun h => by have h' : 16 + i.val < 16 := h.2; omega)]
    exact if_pos ⟨Nat.le_add_right _ _, by show 16 + i.val < 24; omega⟩
  obtain ⟨e₁, e₂⟩ := inc_fan c i
  unfold srcRes recvPay
  rw [if_neg (hk₁ i), if_neg (hk₂ i), hq₁, hq₂]
  unfold inc rows
  rw [(hl i).1, (hl i).2.1, (hl i).2.2, ← e₁, ← e₂]
  unfold done
  exact pointsTo_share (PosShare.mem_left_op_right _)

omit [FloatOps F] in
/-- Two chunks are what a message that passes both on reads. -/
theorem join_res (c : Dev nD) (j j₁ j₂ : Fin 27) (hk : kind j ≠ 0) (hq : shr j = fullShare) (hne : j₁ ≠ j₂) (hrows : rows c j = inc c j₁ ∪ inc c j₂) :
    srcRes m c j ⊣⊢ iprop(recvPay m c j₁ ∗ recvPay m c j₂) := by
  unfold srcRes recvPay
  rw [if_neg hk, hq, hrows]
  unfold done
  exact pointsTo_union (inc_disjoint c hne)

/-- A step of bookkeeping: what has arrived from the partner becomes what is to be sent along the ring. -/
theorem st_fan (c : Dev nD) (i : Fin 8) {j j₁ j₂ : Fin 27} (hj : j.val = i.val) (h₁ : j₁.val = 8 + i.val) (h₂ : j₂.val = 16 + i.val) :
    St m K c a b x r z (j :: g) w h ⊢ St m K c a b (j₁ :: j₂ :: x) r z g w h := by
  unfold St
  dsimp only [sepList]
  iintro ⟨HR, Hlev, HO, Ha, Hb, Hx, Hr, Hz, ⟨Hj, Hg⟩, Hw, Hh⟩
  ihave H := (fan_res m c i hj h₁ h₂).1 $$ Hj
  icases H with ⟨H₁, H₂⟩
  isplitl [HR]; · iexact HR
  isplitl [Hlev]; · iexact Hlev
  isplitl [HO]; · iexact HO
  isplitl [Ha]; · iexact Ha
  isplitl [Hb]; · iexact Hb
  isplitl [Hx H₁ H₂]
  · isplitl [H₁]; · iexact H₁
    isplitl [H₂] <;> iassumption
  isplitl [Hr]; · iexact Hr
  isplitl [Hz]; · iexact Hz
  isplitl [Hg]; · iexact Hg
  isplitl [Hw] <;> iassumption

/-- Two chunks that have arrived become what one message passes on. -/
theorem st_join (c : Dev nD) (j j₁ j₂ : Fin 27) (hk : kind j ≠ 0) (hq : shr j = fullShare) (hne : j₁ ≠ j₂) (hrows : rows c j = inc c j₁ ∪ inc c j₂) :
    St m K c a b x r z (j₂ :: j₁ :: g) w h ⊢ St m K c a b (j :: x) r z g w h := by
  have hres : iprop(recvPay m c j₂ ∗ recvPay m c j₁) ⊢ srcRes m c j := sep_comm.1.trans (join_res m c j j₁ j₂ hk hq hne hrows).2
  unfold St
  dsimp only [sepList]
  iintro ⟨HR, Hlev, HO, Ha, Hb, Hx, Hr, Hz, ⟨Hj₂, Hj₁, Hg⟩, Hw, Hh⟩
  ihave H := hres $$ [Hj₁ Hj₂]
  · isplitl [Hj₂] <;> iassumption
  isplitl [HR]; · iexact HR
  isplitl [Hlev]; · iexact Hlev
  isplitl [HO]; · iexact HO
  isplitl [Ha]; · iexact Ha
  isplitl [Hb]; · iexact Hb
  isplitl [Hx H]
  · isplitl [H] <;> iassumption
  isplitl [Hr]; · iexact Hr
  isplitl [Hz]; · iexact Hz
  isplitl [Hg]; · iexact Hg
  isplitl [Hw] <;> iassumption

/-- The order in which the messages on their way are listed does not matter. -/
theorem st_perm (c : Dev nD) {b' : List (Fin 27)} (hb : b.Perm b') : St m K c a b x r z g w h ⊢ St m K c a b' x r z g w h := by
  unfold St; rw [sepList_perm (gone (F := F) c) hb]

end Cert.KernelIdealProof

end
-- ==== Proof.KernelIdealExchange.lean ====
/-
The exchange as the program runs it: the three signals and the wait at the barrier, then one rule for every step.
-/
module

public import proofs.«01_k».proof.Proof.KernelIdealSteps

@[expose] public section

noncomputable section

namespace Cert.KernelIdealProof

open Cert.KernelIdeal Cert.KernelIdeal.Gen Cert.Mesh Cert.Lists

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The order in which a device sends its messages, -/
abbrev sendOrder : List (Fin 27) := [0, 1, 2, 3, 4, 5, 6, 7, 26, 8, 16, 9, 17, 10, 18, 11, 19, 12, 20, 13, 21, 14, 22, 15, 23, 25, 24]
/-- the order in which it waits for those sent to it, -/
abbrev recvOrder : List (Fin 27) := [0, 1, 2, 3, 4, 5, 6, 7, 20, 21, 14, 15, 8, 16, 9, 17, 10, 18, 11, 19, 12, 13, 22, 23, 26, 25, 24]
/-- the messages to the partner, -/
abbrev partList : List (Fin 27) := [0, 1, 2, 3, 4, 5, 6, 7, 26]
/-- and all messages in their numbering. -/
abbrev allList : List (Fin 27) := [0, 1, 2, 3, 4, 5, 6, 7, 8, 9, 10, 11, 12, 13, 14, 15, 16, 17, 18, 19, 20, 21, 22, 23, 24, 25, 26]

variable (K : Dev nD × CI → ℕ)

/-! ## The barrier -/

/-- What a device signals its neighbour of kind `t` with. -/
def sig₀ (c : Dev nD) (t : Fin 3) : sProp 𝕄 :=
  iprop(dutyTok ER (barCell (nbr t c)) 0 (back t) ∗ barPay (F := F) (nbr t c) (back t))

/-- What device `c` holds when the neighbours `l` are still to be signalled; `R` is what it does not need before the barrier. -/
def Pre (c : Dev nD) (l : List (Fin 3)) (R : sProp 𝕄) : sProp 𝕄 :=
  iprop(records m K ∗ levAts L lv ∗ (∃ W, owes c.tc (owedBar c (owed c sendOrder) l) W) ∗ sepList (sig₀ (F := F) c) l
    ∗ atPos ER (barCell c) 0 ∅ 0 ∗ cred (tallyAt (barCell c) () 3) ∗ R)

/-- Signalling the next neighbour on the list. -/
theorem st_signal {α : Type} {Q : α → sProp 𝕄} {k : PUnit → Prog (TpuEff nD τ sig (Elt F) Λ₀ .tc) α} (c : Dev nD) (t : Fin 3) {l : List (Fin 3)} {R : sProp 𝕄}
    {nv : Dev nD → ℕ} {hlt : nv c < nD} {i : Int} (hi : i = ((1 : ℕ) : Int)) (hn : ∀ c, nv c = (nbr t c).val)
    (next : Pre m K c l R ⊢ wp frame (wpE (defs₀ (F := F)) 𝒱₀ c.tc none) Set.univ (k ⟨⟩) Q) :
    Pre m K c (t :: l) R
      ⊢ wp frame (wpE (defs₀ (F := F)) 𝒱₀ c.tc none) Set.univ (.op (.semSignal (Dev.tc (⟨nv c, hlt⟩ : Dev nD) : Thread nD τ) barS i) k) Q := by
  subst hi
  have hnt : (⟨nv c, hlt⟩ : Dev nD) = nbr t c := Fin.ext (hn c)
  rw [hnt]
  unfold Pre at next ⊢
  dsimp only [sepList, owedBar] at next ⊢
  unfold sig₀ at next ⊢
  iintro ⟨#HR, #Hlev, ⟨%W, HO⟩, ⟨⟨Ht, Hp⟩, Hl⟩, Hat, Hc, HX⟩
  iapply (Rounds.wp_signal 𝒱₀ ER (xRd m) (c.tc : Thread nD τ) none (dst := (Dev.tc (nbr t c) : Thread nD τ)) (κ := K (nbr t c, .inl ()))
      (d := back t) (by rw [duties_bar]; exact Finset.mem_univ _) (amount_bar m (nbr t c) (back t)) () (owedBar c (owed c sendOrder) l) rfl (W := W))
    $$ [HO Ht Hp]
  · isplitr; · iapply (records_inv m K (nbr t c, .inl ())); iexact HR
    isplitl [HO]; · iexact HO
    isplitl [Ht]; · iexact Ht
    isplitl [Hp]; · rw [payload_bar]; iexact Hp
    iapply (records_reached m K (nbr t c, .inl ())); iexact HR
  iintro HO
  iapply next
  isplitr; · iexact HR
  isplitr; · iexact Hlev
  isplitl [HO]; · iexists _; iexact HO
  isplitl [Hl]; · iexact Hl
  isplitl [Hat]; · iexact Hat
  isplitl [Hc] <;> iassumption

theorem lvm_bar (a : List (Fin 27)) : ∀ j ∈ a, 1 < lvm j := fun j _ => lvm_ge j

/-- What a device has after the barrier: the rows of its neighbours' results it is to write, and its barrier cell at rest. -/
def Met (c : Dev nD) (R : sProp 𝕄) : sProp 𝕄 :=
  iprop(records m K ∗ levAts L lv ∗ (∃ W, owes c.tc (owed c sendOrder) W) ∗ bigSep Finset.univ (barPay (F := F) c)
    ∗ semVal (barCell c) 0 ∗ R)

/-- Waiting for all three neighbours. -/
theorem st_barrier {α : Type} {Q : α → sProp 𝕄} {k : PUnit → Prog (TpuEff nD τ sig (Elt F) Λ₀ .tc) α} (c : Dev nD) {R : sProp 𝕄}
    {n : ℕ} (hn : n = 3)
    (next : Met m K c R ⊢ wp frame (wpE (defs₀ (F := F)) 𝒱₀ c.tc none) Set.univ (k ⟨⟩) Q) :
    Pre m K c [] R ⊢ wp frame (wpE (defs₀ (F := F)) 𝒱₀ c.tc none) Set.univ (.op (.semWait barS n) k) Q := by
  subst hn
  have hk : 0 + 3 = (xRd (F := F) m).expect (barCell c) 0 := by rw [expect_bar]
  unfold Pre
  unfold Met at next
  dsimp only [sepList, owedBar] at next ⊢
  iintro ⟨#HR, #Hlev, ⟨%W, HO⟩, Hl, Hat, Hc, HX⟩
  iapply (Rounds.wp_wait_rest_token 𝒱₀ ER (xRd m) (c.tc : Thread nD τ) none (κ := K (c, .inl ()))
      (wpE_semWait_eq 𝒱₀ (c.tc : Thread nD τ) none Set.univ) (Set.mem_univ _) () (O := owed c sendOrder) (W := W) (R := 0) (m := 0) (T := ∅)
      hk) $$ [Hc HO Hat]
  · isplitr; · iapply (records_inv m K (c, .inl ())); iexact HR
    isplitl [Hc]; · iexact Hc
    isplitl [HO]; · iexact HO
    isplitr
    · iapply (mayWait_lt (F := F) c (.reg barS) sendOrder (lvm_bar sendOrder)); iexact Hlev
    iexact Hat
  iintro ⟨HO, Hat, -, Hpay⟩
  ihave Hp := (Entails.of_eq (rest_bar m c)) $$ Hpay
  imod (Rounds.cell_close ER (xRd m) (Set.mem_univ (K (c, .inl ()))) (fun h => h) (R := 0 + 1) (duties_later m (barCell c))) $$ [Hat] with Hz
  · isplitr; · iapply (records_inv m K (c, .inl ())); iexact HR
    iexact Hat
  iapply next
  isplitr; · iexact HR
  isplitr; · iexact Hlev
  isplitl [HO]; · iexists _; iexact HO
  isplitl [Hp]; · iexact Hp
  isplitl [Hz] <;> iassumption

/-- The word of the table a device reads: the x of its partner. -/
def dw (c : Dev nD) : BitVec 32 := if c.val / 4 = 0 then 1#32 else 0#32

/-- The devices computed from the word are devices of the mesh. -/
theorem chk_dw : ∀ c : Dev nD, k0_chk1 c (dw c) := by decide +kernel
/-- The word is not the device's own x: it takes part in the exchange, -/
theorem swaps : ∀ c : Dev nD, k0_cond2 c (dw c) = 1#1 := by decide +kernel
/-- and does not keep its block. -/
theorem not_kept : ∀ c : Dev nD, ¬ Scalar.cmpi .ne (Scalar.extui (Scalar.cmpi .eq (dw c) (Scalar.remsi (Scalar.divsi (Dev.word c) 4#32) 2#32)) : BitVec 32) 0#32 = 1#1 := by decide +kernel
/-- The entry of the swapping table at a device's x. -/
theorem word_at : ∀ c : Dev nD, (fun i : S2.Idx => if (i 0).val = 0 then 1#32 else (0#32 : BitVec 32)) ((Rect.unit (s := S2) (k0_off1 c) S1.size (k0_off1_inb c)).emb (Shape.Idx.first (numel1_S1.symm ▸ Nat.one_pos))) = dw c := by decide +kernel

/-- Loading a word of the table. -/
theorem st_load {α : Type} {Q : α → sProp 𝕄} (c : Dev nD) {A : sProp 𝕄} {r : Rect S2} {hl} {k : (r.shape.Idx → Elt F .i32) → Prog (TpuEff nD τ sig (Elt F) Λ₀ .tc) α}
    (T : Buf (Elt F) ((c : Thread nD τ).loc cc0_stg0_0))
    (next : iprop(A ∗ (((c : Thread nD τ).loc cc0_stg0_0) ↦{fullShare} T))
      ⊢ wp frame (wpE (defs₀ (F := F)) 𝒱₀ c.tc none) Set.univ (k (((Memref.whole cc0_stg0_0).access r).read (Elt F) T)) Q) :
    iprop(A ∗ (((c : Thread nD τ).loc cc0_stg0_0) ↦{fullShare} T))
      ⊢ wp frame (wpE (defs₀ (F := F)) 𝒱₀ c.tc none) Set.univ (.op (.load (Memref.whole cc0_stg0_0) (r : LoadRect S2) hl) k) Q := by
  iintro ⟨HA, Hx⟩
  iapply (wp_load_rect 𝒱₀ (c : Thread nD τ) none Set.univ (m := Memref.whole cc0_stg0_0) (r := r) (S := Finset.univ) (q := fullShare) (f := T) (Finset.subset_univ _)) $$ Hx; iintro Hx
  iapply next
  isplitl [HA] <;> iassumption
omit [FloatOps F] in
/-- What stands beside may be counted to what is not needed before the barrier. -/
theorem pre_frame (c : Dev nD) {l R B} : iprop(Pre m K c l R ∗ B) ⊢ Pre m K c l iprop(R ∗ B) := by
  unfold Pre
  iintro ⟨⟨H1, H2, H3, H4, H5, H6, H7⟩, H8⟩
  isplitl [H1]; · iexact H1
  isplitl [H2]; · iexact H2
  isplitl [H3]; · iexact H3
  isplitl [H4]; · iexact H4
  isplitl [H5]; · iexact H5
  isplitl [H6]; · iexact H6
  isplitl [H7] <;> iassumption

/-! ## After the barrier -/

/-- The tokens for the two cells of message `j`. -/
def toks₀ (c : Dev nD) (j : Fin 27) : sProp 𝕄 := iprop(dutyTok ER (sendCell c j) 0 0 ∗ dutyTok ER (recvCell (tgt c j) j) 0 0)

/-- What a device brings to the exchange. -/
def Start (c : Dev nD) : sProp 𝕄 :=
  iprop(sepList (toks₀ (F := F) c) sendOrder ∗ sepList (srcRes m c) partList ∗ sepList (due (F := F) c) recvOrder
    ∗ sepList (fun j => atPos ER (sendCell c j) 0 ∅ 0) allList)

/-- What a device has at the end. -/
def Final (c : Dev nD) : sProp 𝕄 :=
  St m K c [] [] [] [] recvOrder.reverse [24, 25, 26, 23, 22, 13, 12, 19, 11, 18, 10, 17, 9, 16, 8] [] allList.reverse

omit [FloatOps F] in
/-- What the three neighbours give is where all messages go. -/
theorem barPay_all (c : Dev nD) : bigSep Finset.univ (barPay (F := F) c) = sepList (dstRes (F := F) c) sendOrder := by
  rw [sepList_eq (dstRes (F := F) c) Finset.univ (by decide) (by decide)]
  unfold barPay
  rw [bigSep_fiberwise Finset.univ kind (dstRes (F := F) c), show Finset.univ.image kind = Finset.univ from by decide]

/-- After the barrier the exchange begins; what it does not touch stays beside it. -/
theorem met_start {α : Type} {Q : α → sProp 𝕄} {p : Prog (TpuEff nD τ sig (Elt F) Λ₀ .tc) α} (c : Dev nD) {R B : sProp 𝕄}
    (next : St m K c sendOrder [] partList recvOrder [] [] allList []
      ⊢ wp frame (wpE (defs₀ (F := F)) 𝒱₀ c.tc none) Set.univ p (fun a => iprop((semVal (barCell c) 0 ∗ R ∗ B) -∗ Q a))) :
    Met m K c iprop((Start m c ∗ R) ∗ B) ⊢ wp frame (wpE (defs₀ (F := F)) 𝒱₀ c.tc none) Set.univ p Q := by
  have hpay : sepList (pay (F := F) c) sendOrder = iprop(sepList (toks₀ (F := F) c) sendOrder ∗ sepList (dstRes (F := F) c) sendOrder) := by
    rw [← sepList_sep]
    refine congrArg (fun Φ => sepList Φ sendOrder) (funext fun j => ?_)
    unfold pay toks₀
    have h := sep_assoc (PROP := sProp 𝕄) (P := dutyTok ER (sendCell c j) 0 0) (Q := dutyTok ER (recvCell (tgt c j) j) 0 0) (R := dstRes (F := F) c j)
    exact equiv_iff.mp ⟨h.2, h.1⟩
  have hwp : iprop(wp frame (wpE (defs₀ (F := F)) 𝒱₀ c.tc none) Set.univ p (fun a => iprop((semVal (barCell c) 0 ∗ R ∗ B) -∗ Q a)) ∗ (semVal (barCell c) 0 ∗ R ∗ B))
      ⊢ wp frame (wpE (defs₀ (F := F)) 𝒱₀ c.tc none) Set.univ p Q :=
    (wp_frame_r _ _ _).trans (wp_mono _ _ _ fun a => wand_elim .rfl)
  have hpre : Met m K c iprop((Start m c ∗ R) ∗ B)
      ⊢ iprop(St m K c sendOrder [] partList recvOrder [] [] allList [] ∗ semVal (barCell c) 0 ∗ R ∗ B) := by
    unfold Met Start St
    rw [hpay, barPay_all]
    iintro ⟨HR, Hlev, HO, Hp, Hz, ⟨⟨Ht, Hx, Hr, Hw⟩, HX⟩, HB⟩
    isplitr [Hz HX HB]
    · isplitl [HR]; · iexact HR
      isplitl [Hlev]; · iexact Hlev
      isplitl [HO]; · iexact HO
      isplitl [Ht Hp]
      · isplitl [Ht] <;> iassumption
      isplitr; · dsimp only [sepList]; iempintro
      isplitl [Hx]; · iexact Hx
      isplitl [Hr]; · iexact Hr
      isplitr; · dsimp only [sepList]; iempintro
      isplitr; · dsimp only [sepList]; iempintro
      isplitl [Hw]; · iexact Hw
      dsimp only [sepList]; iempintro
    · isplitl [Hz]; · iexact Hz
      isplitl [HX] <;> iassumption
  exact hpre.trans ((sep_mono_l next).trans hwp)

/-! ## The body -/

set_option maxRecDepth 65536 in
set_option maxHeartbeats 8000000 in
/-- A device whose table swaps the two x: the body from what it holds at the start to what it holds at the end, one rule
    for each effect in program order. -/
theorem body_swap (c : Dev nD) (R : sProp 𝕄) (T : Buf (Elt F) ((c : Thread nD τ).loc cc0_stg0_0))
    (hT : T = fun i => if (i 0).val = 0 then 1#32 else 0#32) :
    iprop(Pre m K c [0, 1, 2] iprop(Start m c ∗ R) ∗ (((c : Thread nD τ).loc cc0_stg0_0) ↦{fullShare} T))
      ⊢ wp frame (wpE (defs₀ (F := F)) 𝒱₀ c.tc none) Set.univ
          (cc0_body (Memref.whole cc0_stg0_0) (Memref.isWhole_whole _) (Memref.whole main_arg0) (Memref.isWhole_whole _) (Memref.whole main_v1) (Memref.isWhole_whole _) cc0_scratch0 cc0_scratch1 cc0_scratch2)
          (fun _ => iprop(Final m K c ∗ semVal (barCell c) 0 ∗ R ∗ (((c : Thread nD τ).loc cc0_stg0_0) ↦{fullShare} T))) := by
  simp only [cc0_body_eq_skeleton]; unfold cc0_body_skel
  simp only [semSignalWord, semWaitWord, smemLoad, smemLoadElt, Prog.lift, Prog.bind_op, Prog.bind_ret, Prog.pure_eq_ret, wp_deviceId]
  refine st_load c (r := Rect.unit (s := S2) (k0_off1 c) S1.size (k0_off1_inb c)) T ?_
  refine (pre_frame m K c).trans ?_
  have hv : ((Memref.whole cc0_stg0_0).access (Rect.unit (s := S2) (k0_off1 c) S1.size (k0_off1_inb c))).read (Elt F) T (Shape.Idx.first (numel1_S1.symm ▸ Nat.one_pos)) = dw c := by
    subst hT
    rw [View.read_apply]
    exact word_at c
  rw [hv]
  rw [wp_assume_of _ _ _ _ (d := k0_chk1.dec _ _) (chk_dw c)]
  rw [if_neg (not_kept c), dif_pos (swaps c)]
  generalize Scalar.remsi (Scalar.divsi c.word 4#32) 2#32 = v2
  generalize Scalar.remsi (Scalar.divsi c.word 2#32) 2#32 = v5
  generalize Scalar.remsi (Scalar.divsi c.word 1#32) 2#32 = v8
  clear hv hT
  rw [k0_part1_eq_skeleton]; unfold k0_part1_skel
  simp only [semSignalWord, semWaitWord, Prog.lift, Prog.bind_op, Prog.bind_ret, Prog.pure_eq_ret, Prog.bind_assoc]
  refine st_signal m K c 0 (nv := fun c => k0_dev1 c (dw c)) (by decide) (by decide +kernel) ?_
  rw [k0_part2_eq_skeleton]; unfold k0_part2_skel
  simp only [semSignalWord, semWaitWord, Prog.lift, Prog.bind_op, Prog.bind_ret, Prog.pure_eq_ret, Prog.bind_assoc]
  refine st_signal m K c 1 (nv := k0_dev2) (by decide) (by decide +kernel) ?_
  refine st_signal m K c 2 (nv := k0_dev3) (by decide) (by decide +kernel) ?_
  refine st_barrier m K c rfl ?_
  refine met_start m K c ?_
  rw [k0_part3_eq_skeleton]; unfold k0_part3_skel
  simp only [Prog.lift, Prog.bind_op, Prog.bind_ret, Prog.pure_eq_ret, Prog.bind_assoc]
  refine st_start_x m K c 0 (nv := fun c => k0_dev4 c (dw c)) (offF := fun c => k0_off2 c 0#32) rfl (by decide +kernel) rfl (by decide +kernel) rfl rfl ?_
  rw [k0_part4_eq_skeleton]; unfold k0_part4_skel
  simp only [Prog.lift, Prog.bind_op, Prog.bind_ret, Prog.pure_eq_ret, Prog.bind_assoc]
  refine st_start_x m K c 1 (nv := fun c => k0_dev5 c (dw c)) (offF := fun c => k0_off2 c 32#32) rfl (by decide +kernel) rfl (by decide +kernel) rfl rfl ?_
  refine st_start_x m K c 2 (nv := fun c => k0_dev6 c (dw c)) (offF := fun c => k0_off2 c 64#32) rfl (by decide +kernel) rfl (by decide +kernel) rfl rfl ?_
  rw [k0_part5_eq_skeleton]; unfold k0_part5_skel
  simp only [Prog.lift, Prog.bind_op, Prog.bind_ret, Prog.pure_eq_ret, Prog.bind_assoc]
  refine st_start_x m K c 3 (nv := fun c => k0_dev7 c (dw c)) (offF := fun c => k0_off2 c 96#32) rfl (by decide +kernel) rfl (by decide +kernel) rfl rfl ?_
  refine st_start_x m K c 4 (nv := fun c => k0_dev8 c (dw c)) (offF := fun c => k0_off2 c 128#32) rfl (by decide +kernel) rfl (by decide +kernel) rfl rfl ?_
  refine st_start_x m K c 5 (nv := fun c => k0_dev9 c (dw c)) (offF := fun c => k0_off2 c 160#32) rfl (by decide +kernel) rfl (by decide +kernel) rfl rfl ?_
  rw [k0_part6_eq_skeleton]; unfold k0_part6_skel
  simp only [Prog.lift, Prog.bind_op, Prog.bind_ret, Prog.pure_eq_ret, Prog.bind_assoc]
  refine st_start_x m K c 6 (nv := fun c => k0_dev10 c (dw c)) (offF := fun c => k0_off2 c 192#32) rfl (by decide +kernel) rfl (by decide +kernel) rfl rfl ?_
  refine st_start_x m K c 7 (nv := fun c => k0_dev11 c (dw c)) (offF := fun c => k0_off2 c 224#32) rfl (by decide +kernel) rfl (by decide +kernel) rfl rfl ?_
  rw [k0_part7_eq_skeleton]; unfold k0_part7_skel
  simp only [Prog.lift, Prog.bind_op, Prog.bind_ret, Prog.pure_eq_ret, Prog.bind_assoc]
  refine st_start_x m K c 26 (nv := fun c => k0_dev12 c (dw c)) (offF := k0_off3) rfl (by decide +kernel) rfl (by decide +kernel) rfl rfl ?_
  refine st_recv m K c 0 rfl (credit_o _ rfl) (by decide) ?_
  refine (st_fan m K c 0 (j := 0) (j₁ := 8) (j₂ := 16) rfl rfl rfl).trans ?_
  refine st_start_o m K c 8 (nv := k0_dev13) (offF := fun c => k0_off2 c 0#32) (by decide) (by decide +kernel) rfl (by decide +kernel) rfl rfl ?_
  rw [k0_part8_eq_skeleton]; unfold k0_part8_skel
  simp only [Prog.lift, Prog.bind_op, Prog.bind_ret, Prog.pure_eq_ret, Prog.bind_assoc]
  refine st_start_o m K c 16 (nv := k0_dev14) (offF := fun c => k0_off2 c 0#32) (by decide) (by decide +kernel) rfl (by decide +kernel) rfl rfl ?_
  refine st_recv m K c 1 rfl (credit_o _ rfl) (by decide) ?_
  refine (st_fan m K c 1 (j := 1) (j₁ := 9) (j₂ := 17) rfl rfl rfl).trans ?_
  refine st_start_o m K c 9 (nv := k0_dev15) (offF := fun c => k0_off2 c 32#32) (by decide) (by decide +kernel) rfl (by decide +kernel) rfl rfl ?_
  rw [k0_part9_eq_skeleton]; unfold k0_part9_skel
  simp only [Prog.lift, Prog.bind_op, Prog.bind_ret, Prog.pure_eq_ret, Prog.bind_assoc]
  refine st_start_o m K c 17 (nv := k0_dev16) (offF := fun c => k0_off2 c 32#32) (by decide) (by decide +kernel) rfl (by decide +kernel) rfl rfl ?_
  refine st_recv m K c 2 rfl (credit_o _ rfl) (by decide) ?_
  refine (st_fan m K c 2 (j := 2) (j₁ := 10) (j₂ := 18) rfl rfl rfl).trans ?_
  rw [k0_part10_eq_skeleton]; unfold k0_part10_skel
  simp only [Prog.lift, Prog.bind_op, Prog.bind_ret, Prog.pure_eq_ret, Prog.bind_assoc]
  refine st_start_o m K c 10 (nv := k0_dev17) (offF := fun c => k0_off2 c 64#32) (by decide) (by decide +kernel) rfl (by decide +kernel) rfl rfl ?_
  refine st_start_o m K c 18 (nv := k0_dev18) (offF := fun c => k0_off2 c 64#32) (by decide) (by decide +kernel) rfl (by decide +kernel) rfl rfl ?_
  refine st_recv m K c 3 rfl (credit_o _ rfl) (by decide) ?_
  refine (st_fan m K c 3 (j := 3) (j₁ := 11) (j₂ := 19) rfl rfl rfl).trans ?_
  rw [k0_part11_eq_skeleton]; unfold k0_part11_skel
  simp only [Prog.lift, Prog.bind_op, Prog.bind_ret, Prog.pure_eq_ret, Prog.bind_assoc]
  refine st_start_o m K c 11 (nv := k0_dev19) (offF := fun c => k0_off2 c 96#32) (by decide) (by decide +kernel) rfl (by decide +kernel) rfl rfl ?_
  refine st_start_o m K c 19 (nv := k0_dev20) (offF := fun c => k0_off2 c 96#32) (by decide) (by decide +kernel) rfl (by decide +kernel) rfl rfl ?_
  rw [k0_part12_eq_skeleton]; unfold k0_part12_skel
  simp only [Prog.lift, Prog.bind_op, Prog.bind_ret, Prog.pure_eq_ret, Prog.bind_assoc]
  refine st_recv m K c 4 rfl (credit_o _ rfl) (by decide) ?_
  refine (st_fan m K c 4 (j := 4) (j₁ := 12) (j₂ := 20) rfl rfl rfl).trans ?_
  refine st_start_o m K c 12 (nv := k0_dev21) (offF := fun c => k0_off2 c 128#32) (by decide) (by decide +kernel) rfl (by decide +kernel) rfl rfl ?_
  refine st_start_o m K c 20 (nv := k0_dev22) (offF := fun c => k0_off2 c 128#32) (by decide) (by decide +kernel) rfl (by decide +kernel) rfl rfl ?_
  rw [k0_part13_eq_skeleton]; unfold k0_part13_skel
  simp only [Prog.lift, Prog.bind_op, Prog.bind_ret, Prog.pure_eq_ret, Prog.bind_assoc]
  refine st_recv m K c 5 rfl (credit_o _ rfl) (by decide) ?_
  refine (st_fan m K c 5 (j := 5) (j₁ := 13) (j₂ := 21) rfl rfl rfl).trans ?_
  refine st_start_o m K c 13 (nv := k0_dev23) (offF := fun c => k0_off2 c 160#32) (by decide) (by decide +kernel) rfl (by decide +kernel) rfl rfl ?_
  rw [k0_part14_eq_skeleton]; unfold k0_part14_skel
  simp only [Prog.lift, Prog.bind_op, Prog.bind_ret, Prog.pure_eq_ret, Prog.bind_assoc]
  refine st_start_o m K c 21 (nv := k0_dev24) (offF := fun c => k0_off2 c 160#32) (by decide) (by decide +kernel) rfl (by decide +kernel) rfl rfl ?_
  refine st_recv m K c 6 rfl (credit_o _ rfl) (by decide) ?_
  refine (st_fan m K c 6 (j := 6) (j₁ := 14) (j₂ := 22) rfl rfl rfl).trans ?_
  refine st_start_o m K c 14 (nv := k0_dev25) (offF := fun c => k0_off2 c 192#32) (by decide) (by decide +kernel) rfl (by decide +kernel) rfl rfl ?_
  rw [k0_part15_eq_skeleton]; unfold k0_part15_skel
  simp only [Prog.lift, Prog.bind_op, Prog.bind_ret, Prog.pure_eq_ret, Prog.bind_assoc]
  refine st_start_o m K c 22 (nv := k0_dev26) (offF := fun c => k0_off2 c 192#32) (by decide) (by decide +kernel) rfl (by decide +kernel) rfl rfl ?_
  refine st_recv m K c 7 rfl (credit_o _ rfl) (by decide) ?_
  refine (st_fan m K c 7 (j := 7) (j₁ := 15) (j₂ := 23) rfl rfl rfl).trans ?_
  rw [k0_part16_eq_skeleton]; unfold k0_part16_skel
  simp only [Prog.lift, Prog.bind_op, Prog.bind_ret, Prog.pure_eq_ret, Prog.bind_assoc]
  refine st_start_o m K c 15 (nv := k0_dev27) (offF := fun c => k0_off2 c 224#32) (by decide) (by decide +kernel) rfl (by decide +kernel) rfl rfl ?_
  refine st_start_o m K c 23 (nv := k0_dev28) (offF := fun c => k0_off2 c 224#32) (by decide) (by decide +kernel) rfl (by decide +kernel) rfl rfl ?_
  refine st_recv m K c 20 rfl (credit_o _ rfl) (by decide) ?_
  rw [k0_part17_eq_skeleton]; unfold k0_part17_skel
  simp only [Prog.lift, Prog.bind_op, Prog.bind_ret, Prog.pure_eq_ret, Prog.bind_assoc]
  refine st_recv m K c 21 rfl (credit_o _ rfl) (by decide) ?_
  refine (st_join m K c 25 20 21 (by decide) rfl (by decide) (rows_25 c)).trans ?_
  refine st_start_o m K c 25 (nv := k0_dev29) (offF := k0_off4) (by decide) (by decide +kernel) rfl (by decide +kernel) rfl rfl ?_
  refine st_recv m K c 14 rfl (credit_o _ rfl) (by decide) ?_
  rw [k0_part18_eq_skeleton]; unfold k0_part18_skel
  simp only [Prog.lift, Prog.bind_op, Prog.bind_ret, Prog.pure_eq_ret, Prog.bind_assoc]
  refine st_recv m K c 15 rfl (credit_o _ rfl) (by decide) ?_
  refine (st_join m K c 24 14 15 (by decide) rfl (by decide) (rows_24 c)).trans ?_
  refine st_start_o m K c 24 (nv := k0_dev30) (offF := k0_off5) (by decide) (by decide +kernel) rfl (by decide +kernel) rfl rfl ?_
  rw [k0_part19_eq_skeleton]; unfold k0_part19_skel
  simp only [Prog.lift, Prog.bind_op, Prog.bind_ret, Prog.pure_eq_ret, Prog.bind_assoc]
  iterate 3 refine st_recv m K c _ rfl (credit_o _ rfl) (by decide) ?_
  rw [k0_part20_eq_skeleton]; unfold k0_part20_skel
  simp only [Prog.lift, Prog.bind_op, Prog.bind_ret, Prog.pure_eq_ret, Prog.bind_assoc]
  iterate 3 refine st_recv m K c _ rfl (credit_o _ rfl) (by decide) ?_
  rw [k0_part21_eq_skeleton]; unfold k0_part21_skel
  simp only [Prog.lift, Prog.bind_op, Prog.bind_ret, Prog.pure_eq_ret, Prog.bind_assoc]
  iterate 3 refine st_recv m K c _ rfl (credit_o _ rfl) (by decide) ?_
  rw [k0_part22_eq_skeleton]; unfold k0_part22_skel
  simp only [Prog.lift, Prog.bind_op, Prog.bind_ret, Prog.pure_eq_ret, Prog.bind_assoc]
  iterate 3 refine st_recv m K c _ rfl (credit_o _ rfl) (by decide) ?_
  rw [k0_part23_eq_skeleton]; unfold k0_part23_skel
  simp only [Prog.lift, Prog.bind_op, Prog.bind_ret, Prog.pure_eq_ret, Prog.bind_assoc]
  iterate 3 refine st_recv m K c _ rfl (credit_o _ rfl) (by decide) ?_
  rw [k0_part24_eq_skeleton]; unfold k0_part24_skel
  simp only [Prog.lift, Prog.bind_op, Prog.bind_ret, Prog.pure_eq_ret, Prog.bind_assoc]
  refine (st_perm m K c (b' := allList) (by decide)).trans ?_
  iterate 5 refine st_sent m K c _ rfl (credit_x _ rfl) ?_
  rw [k0_part25_eq_skeleton]; unfold k0_part25_skel
  simp only [Prog.lift, Prog.bind_op, Prog.bind_ret, Prog.pure_eq_ret, Prog.bind_assoc]
  iterate 3 refine st_sent m K c _ rfl (credit_x _ rfl) ?_
  iterate 2 refine st_sent m K c _ rfl (credit_o _ rfl) ?_
  rw [k0_part26_eq_skeleton]; unfold k0_part26_skel
  simp only [Prog.lift, Prog.bind_op, Prog.bind_ret, Prog.pure_eq_ret, Prog.bind_assoc]
  iterate 5 refine st_sent m K c _ rfl (credit_o _ rfl) ?_
  rw [k0_part27_eq_skeleton]; unfold k0_part27_skel
  simp only [Prog.lift, Prog.bind_op, Prog.bind_ret, Prog.pure_eq_ret, Prog.bind_assoc]
  iterate 5 refine st_sent m K c _ rfl (credit_o _ rfl) ?_
  rw [k0_part28_eq_skeleton]; unfold k0_part28_skel
  simp only [Prog.lift, Prog.bind_op, Prog.bind_ret, Prog.pure_eq_ret, Prog.bind_assoc]
  iterate 5 refine st_sent m K c _ rfl (credit_o _ rfl) ?_
  iterate 1 refine st_sent m K c _ rfl (credit_o _ rfl) ?_
  iterate 1 refine st_sent m K c _ rfl (credit_x _ rfl) ?_
  rw [wp_ret]
  unfold Final
  iintro HS; imodintro; iintro HB
  isplitl [HS]; · iexact HS
  iexact HB

end Cert.KernelIdealProof

end
-- ==== Proof.KernelIdealRows.lean ====
/-
The rows a device holds before the exchange and after it: the result array as the places its neighbours write to, the
block as what its messages to the partner read, and both whole again at the end.
-/
module

public import proofs.«01_k».proof.Proof.KernelIdealExchange

@[expose] public section

noncomputable section

namespace Cert.KernelIdealProof

open Cert.KernelIdeal Cert.KernelIdeal.Gen Cert.Mesh Cert.Lists

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The result array at the start -/

theorem snd_nbr (c : Dev nD) {t : Fin 3} {j : Fin 27} (h : kind j = back t) : snd c j = nbr t c := by
  unfold snd; rw [h, back_back]
theorem tgt_nbr (c : Dev nD) {t : Fin 3} {j : Fin 27} (h : kind j = back t) : tgt (nbr t c) j = c := by
  unfold tgt; rw [h, back_nbr]

omit [FloatOps F] in
/-- What the neighbour of kind `t` is given is the rows of this device's result that the messages from there cover. -/
theorem barPay_nbr (c : Dev nD) (t : Fin 3) :
    barPay (F := F) (nbr t c) (back t) = bigSep (Finset.univ.filter fun j => kind j = back t) fun j => room (F := F) c (inc c j) := by
  unfold barPay
  refine bigSep_congr fun j hj => ?_
  have hk := (Finset.mem_filter.mp hj).2
  unfold dstRes inc
  rw [tgt_nbr c hk, snd_nbr c hk]

omit [FloatOps F] in
/-- The rows of the result that the messages to a device cover, each holding anything, out of the whole array. -/
theorem rooms (c : Dev nD) (f : Buf (Elt F) (oLoc c)) :
    ((oLoc c) ↦{fullShare} f : sProp 𝕄) ⊢ bigSep Finset.univ fun j => room (F := F) c (inc c j) := by
  have h : ((oLoc c) ↦{fullShare} f : sProp 𝕄) = bigSep Finset.univ fun j => (oLoc c) ↦[inc c j]{fullShare} f := by
    have h := pointsTo_biUnion (Ix := Unit) (Name := ℕ) (U := UU) (Lvl := ℕ) (ℓ := oLoc c) (q := fullShare) (f := f) Finset.univ (inc c) (fun j _ j' _ h => inc_disjoint c h)
    rw [← h, inc_cover]
  rw [h]
  refine bigSep_mono fun j _ => ?_
  show ((oLoc c) ↦[inc c j]{fullShare} f : sProp 𝕄) ⊢ iprop(∃ f, (oLoc c) ↦[inc c j]{fullShare} f)
  iintro H; iexists f; iexact H

omit [FloatOps F] in
/-- The whole array is what the three neighbours are given. -/
theorem out_split (c : Dev nD) (f : Buf (Elt F) (oLoc c)) :
    ((oLoc c) ↦{fullShare} f : sProp 𝕄) ⊢ sepList (fun t => barPay (F := F) (nbr t c) (back t)) [0, 1, 2] := by
  refine (rooms c f).trans ?_
  rw [sepList_eq (fun t => barPay (F := F) (nbr t c) (back t)) Finset.univ (by decide) (by decide),
    bigSep_congr fun t _ => barPay_nbr (F := F) c t,
    bigSep_fiberwise Finset.univ (fun j => back (kind j)) fun j => room (F := F) c (inc c j),
    show Finset.univ.image (fun j => back (kind j)) = Finset.univ from by decide]
  refine Entails.of_eq (bigSep_congr fun t _ => ?_)
  refine congrArg (fun s => bigSep s _) (Finset.filter_congr fun j _ => ?_)
  exact ⟨fun h => by rw [← h, back_back], fun h => by rw [h, back_back]⟩

/-! ## The block -/

/-- The rows of the block that no message to the partner reads. -/
def xRest (c : Dev nD) : sProp 𝕄 :=
  (xLoc c) ↦[Finset.univ \ (Finset.univ.filter fun j => kind j = 0).biUnion (rows c)]{fullShare} m (xLoc c)

omit [FloatOps F] in
/-- The block is what the messages to the partner read, and the rest. -/
theorem x_split (c : Dev nD) :
    ((xLoc c) ↦{fullShare} m (xLoc c) : sProp 𝕄) ⊣⊢ iprop(sepList (srcRes m c) partList ∗ xRest m c) := by
  have hU := pointsTo_biUnion (Ix := Unit) (Name := ℕ) (U := UU) (Lvl := ℕ) (ℓ := xLoc c) (q := fullShare) (f := m (xLoc c)) (Finset.univ.filter fun j => kind j = 0) (rows c)
    (fun j hj j' hj' hne => Finset.disjoint_left.mpr fun i hi hi' =>
      hne (rows_part_disjoint c (grain i) j j' (Finset.mem_filter.mp hj).2 (Finset.mem_filter.mp hj').2 (mem_rows.mp hi) (mem_rows.mp hi')))
  have h : sepList (srcRes m c) partList = ((xLoc c) ↦[(Finset.univ.filter fun j => kind j = 0).biUnion (rows c)]{fullShare} m (xLoc c) : sProp 𝕄) := by
    rw [sepList_eq (srcRes m c) (Finset.univ.filter fun j => kind j = 0) (by decide) (by decide),
      hU]
    refine bigSep_congr fun j hj => ?_
    unfold srcRes blk
    rw [if_pos (Finset.mem_filter.mp hj).2]
  unfold xRest
  rw [h]
  exact pointsTo_split_subset (Finset.subset_univ _)

/-! ## The result at the end -/

omit [FloatOps F] in
theorem two_one {A B C L L' : sProp 𝕄} (h : iprop(A ∗ B) ⊢ C) (h' : L ⊢ L') : iprop(A ∗ B ∗ L) ⊢ iprop(C ∗ L') := by
  iintro ⟨HA, HB, HL⟩
  isplitl [HA HB]
  · iapply h; isplitl [HA] <;> iassumption
  · iapply h'; iexact HL
omit [FloatOps F] in
theorem one_two {A B C L L' : sProp 𝕄} (h : C ⊢ iprop(A ∗ B)) (h' : L ⊢ L') : iprop(C ∗ L) ⊢ iprop(A ∗ B ∗ L') := by
  iintro ⟨HC, HL⟩
  ihave H := h $$ HC
  icases H with ⟨HA, HB⟩
  isplitl [HA]; · iexact HA
  isplitl [HB]; · iexact HB
  iapply h'; iexact HL

omit [FloatOps F] in
/-- What the messages along the ring have read is what had arrived from the partner, and the four chunks passed on in pairs. -/
theorem ring_back (c : Dev nD) : sepList (srcRes m c) [8, 16, 9, 17, 10, 18, 11, 19, 12, 20, 13, 21, 14, 22, 15, 23, 25, 24]
    ⊢ sepList (recvPay m c) [0, 1, 2, 3, 4, 5, 6, 7, 20, 21, 14, 15] := by
  have h (k : Fin 8) {j j₁ j₂ : Fin 27} (e : j.val = k.val) (e₁ : j₁.val = 8 + k.val) (e₂ : j₂.val = 16 + k.val) :=
    (fan_res m c k e e₁ e₂).2
  exact two_one (h 0 (j := 0) rfl rfl rfl) <| two_one (h 1 (j := 1) rfl rfl rfl) <| two_one (h 2 (j := 2) rfl rfl rfl)
    <| two_one (h 3 (j := 3) rfl rfl rfl) <| two_one (h 4 (j := 4) rfl rfl rfl) <| two_one (h 5 (j := 5) rfl rfl rfl)
    <| two_one (h 6 (j := 6) rfl rfl rfl) <| two_one (h 7 (j := 7) rfl rfl rfl)
    <| one_two (join_res m c 25 20 21 (by decide) rfl (by decide) (rows_25 c)).1
    <| one_two (join_res m c 24 14 15 (by decide) rfl (by decide) (rows_24 c)).1 .rfl

omit [FloatOps F] in
theorem sepList_append {I : Type} (Φ : I → sProp 𝕄) (l l' : List I) : sepList Φ (l ++ l') = iprop(sepList Φ l ∗ sepList Φ l') := by
  induction l with
  | nil => exact (equiv_iff.mp ⟨(BIClass.emp_sep (PROP := sProp 𝕄) (P := sepList Φ l')).1, (BIClass.emp_sep (PROP := sProp 𝕄) (P := sepList Φ l')).2⟩).symm
  | cons i l ih =>
    show iprop(Φ i ∗ sepList Φ (l ++ l')) = iprop((Φ i ∗ sepList Φ l) ∗ sepList Φ l')
    rw [ih]
    have h := sep_assoc (PROP := sProp 𝕄) (P := Φ i) (Q := sepList Φ l) (R := sepList Φ l')
    exact equiv_iff.mp ⟨h.2, h.1⟩

/-- What a device has to show at the end: its block as it was, its result, its cells at rest. -/
def After (c : Dev nD) : sProp 𝕄 :=
  iprop(sepList (srcRes m c) partList ∗ ((oLoc c) ↦{fullShare} W m c) ∗ (∃ W, owes c.tc 0 W)
    ∗ (bigSep Finset.univ fun j => semVal (sendCell c j) 0) ∗ (bigSep Finset.univ fun j => semVal (recvCell c j) 0))

omit [FloatOps F] in
/-- All that has arrived is the result. -/
theorem out_join (c : Dev nD) {l : List (Fin 27)} (hl : l.Nodup) (hs : l.toFinset = Finset.univ) :
    sepList (recvPay m c) l = ((oLoc c) ↦{fullShare} W m c : sProp 𝕄) := by
  rw [sepList_eq (recvPay m c) Finset.univ hl hs]
  unfold recvPay done
  have h := pointsTo_biUnion (Ix := Unit) (Name := ℕ) (U := UU) (Lvl := ℕ) (ℓ := oLoc c) (q := fullShare) (f := W m c) Finset.univ (inc c) (fun j _ j' _ h => inc_disjoint c h)
  rw [← h, inc_cover]

/-- The end of the exchange, read. -/
theorem final_after (c : Dev nD) : Final m K c ⊢ After m c := by
  have hleft : sepList (left m c) allList.reverse
      = iprop((sepList (srcRes m c) partList ∗ sepList (srcRes m c) [8, 16, 9, 17, 10, 18, 11, 19, 12, 20, 13, 21, 14, 22, 15, 23, 25, 24])
          ∗ bigSep Finset.univ fun j => semVal (sendCell c j) 0) := by
    unfold left
    rw [sepList_sep, sepList_perm (srcRes m c) (l' := partList ++ [8, 16, 9, 17, 10, 18, 11, 19, 12, 20, 13, 21, 14, 22, 15, 23, 25, 24]) (by decide),
      sepList_append, sepList_eq (fun j => semVal (sendCell c j) 0) Finset.univ (by decide) (by decide)]
  have hz : sepList (fun j => (semVal (recvCell c j) 0 : sProp 𝕄)) recvOrder.reverse = bigSep Finset.univ fun j => semVal (recvCell c j) 0 :=
    sepList_eq _ Finset.univ (by decide) (by decide)
  have hout := out_join m c (l := [0, 1, 2, 3, 4, 5, 6, 7, 20, 21, 14, 15] ++ [24, 25, 26, 23, 22, 13, 12, 19, 11, 18, 10, 17, 9, 16, 8]) (by decide) (by decide)
  rw [sepList_append] at hout
  unfold Final St After
  rw [hleft, hz, ← hout]
  iintro ⟨-, -, HO, -, -, -, -, Hz, Hg, -, ⟨⟨Hx, Ho⟩, Hs⟩⟩
  isplitl [Hx]; · iexact Hx
  isplitl [Ho Hg]
  · isplitl [Ho]
    · iapply (ring_back m c); iexact Ho
    · iexact Hg
  isplitl [HO]; · iexact HO
  isplitl [Hs] <;> iassumption

end Cert.KernelIdealProof

end
-- ==== Proof.KernelIdealLaunch.lean ====
/-
What the launch sets up for the exchange: the cells' invariants, the tokens dealt to the devices that pay with them, and
the credits the devices wait with.
-/
module

public import proofs.«01_k».proof.Proof.KernelIdealRows

@[expose] public section

noncomputable section

namespace Cert.KernelIdealProof

open Cert.KernelIdeal Cert.KernelIdeal.Gen Cert.Mesh Cert.Lists

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores -/

/-- The semaphore of the copy a device makes within its own memory. -/
abbrev localS : DmaSem sig := cc0_scratch2.sem
abbrev localCell (c : Dev nD) : GSem nD τ sig := (c.tc, .dma localS)

/-- The kernel's own semaphores: the send semaphores, the receive semaphores, the one of the copy within a device. -/
abbrev OI : Type := (Fin 27 ⊕ Fin 27) ⊕ Unit
abbrev osem : OI → SemLoc sig
  | .inl (.inl j) => .dma (sendS j)
  | .inl (.inr j) => .dma (recvS j)
  | .inr _ => .dma localS

theorem sendS_injective : Function.Injective sendS := fun a b h => Fin.ext (by
  have : 1 + a.val = 1 + b.val := congrArg Fin.val h
  omega)
theorem recvS_injective : Function.Injective recvS := fun a b h => Fin.ext (by
  have : 28 + a.val = 28 + b.val := congrArg Fin.val h
  omega)
theorem sendS_ne_recvS (a b : Fin 27) : sendS a ≠ recvS b := fun h => by
  have : 1 + a.val = 28 + b.val := congrArg Fin.val h
  have := a.isLt
  omega

theorem csem_injective : Function.Injective csem := by
  rintro (⟨⟩ | a | a) (⟨⟩ | b | b) h
  · rfl
  · cases h
  · cases h
  · cases h
  · rw [sendS_injective (SemLoc.dma.inj h)]
  · exact absurd (SemLoc.dma.inj h) (sendS_ne_recvS a b)
  · cases h
  · exact absurd (SemLoc.dma.inj h).symm (sendS_ne_recvS b a)
  · rw [recvS_injective (SemLoc.dma.inj h)]

theorem ownSemFacts : Pipeline.OwnSemFacts cfg0.spec osem := by decide +kernel

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## The launch element -/

def allCells : Finset (GSem nD τ sig) := Finset.univ.map ⟨kcell, kcell_injective⟩

/-- Which duty of a device's cells: the barrier's for a kind of neighbour, a send cell's, a receive cell's. -/
abbrev TI : Type := Fin 3 ⊕ (Fin 27 ⊕ Fin 27)
abbrev tokOf (ct : Dev nD × TI) : GSem nD τ sig × ℕ × Fin 3 := match ct.2 with
  | .inl t => (barCell ct.1, 0, t)
  | .inr (.inl j) => (sendCell ct.1 j, 0, 0)
  | .inr (.inr j) => (recvCell ct.1 j, 0, 0)

theorem tokOf_injective : Function.Injective (tokOf : Dev nD × TI → GSem nD τ sig × ℕ × Fin 3) := by
  rintro ⟨c, k⟩ ⟨c', k'⟩ h
  have h1 : c = c' := by
    have := congrArg (fun x : GSem nD τ sig × ℕ × Fin 3 => x.1.1.1) h
    rcases k with t | j | j <;> rcases k' with t' | j' | j' <;> exact this
  subst h1
  have h2 := congrArg (fun x : GSem nD τ sig × ℕ × Fin 3 => (x.1.2, x.2.2)) h
  rcases k with t | j | j <;> rcases k' with t' | j' | j'
  · rw [show t = t' from congrArg Prod.snd h2]
  · cases congrArg Prod.fst h2
  · cases congrArg Prod.fst h2
  · cases congrArg Prod.fst h2
  · rw [sendS_injective (SemLoc.dma.inj (congrArg Prod.fst h2))]
  · exact absurd (SemLoc.dma.inj (congrArg Prod.fst h2)) (sendS_ne_recvS j j')
  · cases congrArg Prod.fst h2
  · exact absurd (SemLoc.dma.inj (congrArg Prod.fst h2)).symm (sendS_ne_recvS j' j)
  · rw [recvS_injective (SemLoc.dma.inj (congrArg Prod.fst h2))]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun t : Fin 3 => dutyTok ER (barCell c) 0 t)
    ∗ (bigSep Finset.univ fun j : Fin 27 => dutyTok ER (sendCell c j) 0 0) ∗ (bigSep Finset.univ fun j : Fin 27 => dutyTok ER (recvCell c j) 0 0))

/-- What the launch element deals device `c`. -/
def G (c : Dev nD) : sProp 𝕄 :=
  iprop((bigSep Finset.univ fun k : CI => roundState ER (xRd m) (kcell (c, k)) 0)
    ∗ (bigSep Finset.univ fun k : CI => iprop(atPos ER (kcell (c, k)) 0 ∅ 0 ∗ reached ER (kcell (c, k)) 0)) ∗ toks (F := F) c)

omit [FloatOps F] in
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by unfold toks; rw [bigSep_univ_sum, bigSep_univ_sum]; rfl
  iintro HX
  imod (Rounds.fund ER (xRd m) allCells allToks) $$ HX with ⟨Hst, Hr, Hat, Htok⟩
  imodintro
  ihave Hst' := (Entails.of_eq (hX fun g => roundState ER (xRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop(((bigSep Finset.univ fun j => semVal (sendCell c j) 0) ∗ (bigSep Finset.univ fun j => semVal (recvCell c j) 0)) ∗ semVal (localCell c) 0) := by
  unfold Pipeline.ownSems0
  rw [bigSep_univ_sum, bigSep_univ_sum, bigSep_univ_eq_bigSepL (I := Unit) [()] (by decide) (by decide)]
  rfl
omit [FloatOps F] in
/-- The barrier's is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem bigSep_CI (Φ : CI → sProp 𝕄) :
    bigSep Finset.univ Φ = iprop(Φ (.inl ()) ∗ (bigSep Finset.univ fun j => Φ (.inr (.inl j))) ∗ (bigSep Finset.univ fun j => Φ (.inr (.inr j)))) := by
  rw [bigSep_univ_sum, bigSep_univ_sum, bigSep_univ_eq_bigSepL (I := Unit) [()] (by decide) (by decide)]
  rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : CI => semVal (kcell (c, k)) 0) ∗ semVal (localCell c) 0 : sProp 𝕄) := by
  rw [ownSems0_eq, unscopedSems0_eq, bigSep_CI]
  iintro ⟨⟨⟨HS, HV⟩, HL⟩, HB⟩
  isplitl [HB HS HV]
  · isplitl [HB]; · iexact HB
    isplitl [HS] <;> iassumption
  · iexact HL

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks (F := F) c ∗ semVal (localCell c) 0) := by
  unfold G
  iintro ⟨Hos, Hus, Hst, Hat, Htok⟩
  ihave Hv := (sems0_eq (F := F) c) $$ [Hos Hus]
  · isplitl [Hos] <;> iassumption
  icases Hv with ⟨Hv, HL⟩
  imod (show iprop((bigSep Finset.univ fun k : CI => semVal (kcell (c, k)) 0) ∗ bigSep Finset.univ fun k : CI => roundState ER (xRd m) (kcell (c, k)) 0)
      ⊢ (|={Set.univ}=> bigSep Finset.univ fun k => iprop(∃ κ : ℕ, cellInv ER (xRd m) κ (kcell (c, k))) : sProp 𝕄) from by
        rw [← bigSep_sep']
        exact (bigSep_mono fun k _ => (Rounds.body_intro ER (xRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## The tokens dealt to those who pay -/

/-- The tokens device `c` pays with. -/
def payToks (c : Dev nD) : sProp 𝕄 :=
  iprop((bigSep Finset.univ fun t : Fin 3 => dutyTok ER (barCell (nbr t c)) 0 (back t))
    ∗ (bigSep Finset.univ fun j : Fin 27 => dutyTok ER (sendCell c j) 0 0) ∗ (bigSep Finset.univ fun j : Fin 27 => dutyTok ER (recvCell (tgt c j) j) 0 0))

/-- A device with a kind of neighbour, and that neighbour with the kind back. -/
def barEquiv : Dev nD × Fin 3 ≃ Dev nD × Fin 3 :=
  ⟨fun x => (nbr x.2 x.1, back x.2), fun x => (nbr x.2 x.1, back x.2),
    fun x => Prod.ext (back_nbr x.2 x.1) (back_back x.2), fun x => Prod.ext (back_nbr x.2 x.1) (back_back x.2)⟩
/-- A device with a message it sends, and the device the message goes to. -/
def msgEquiv : Dev nD × Fin 27 ≃ Dev nD × Fin 27 :=
  ⟨fun x => (tgt x.1 x.2, x.2), fun x => (snd x.1 x.2, x.2),
    fun x => Prod.ext (snd_tgt x.1 x.2) rfl, fun x => Prod.ext (tgt_snd x.1 x.2) rfl⟩

omit [FloatOps F] in
theorem toks_around : (bigSep Finset.univ fun c : Dev nD => (toks (F := F) c : sProp 𝕄)) ⊢ bigSep Finset.univ fun c : Dev nD => payToks (F := F) c := by
  unfold toks payToks
  have h₁ : (bigSep Finset.univ fun c : Dev nD => bigSep Finset.univ fun t : Fin 3 => (dutyTok ER (barCell c) 0 t : sProp 𝕄))
      = bigSep Finset.univ fun c : Dev nD => bigSep Finset.univ fun t : Fin 3 => dutyTok ER (barCell (nbr t c)) 0 (back t) := by
    rw [← bigSep_univ_prod (fun x : Dev nD × Fin 3 => (dutyTok ER (barCell x.1) 0 x.2 : sProp 𝕄)), bigSep_univ_equiv barEquiv, bigSep_univ_prod]
    rfl
  have h₂ : (bigSep Finset.univ fun c : Dev nD => bigSep Finset.univ fun j : Fin 27 => (dutyTok ER (recvCell c j) 0 0 : sProp 𝕄))
      = bigSep Finset.univ fun c : Dev nD => bigSep Finset.univ fun j : Fin 27 => dutyTok ER (recvCell (tgt c j) j) 0 0 := by
    rw [← bigSep_univ_prod (fun x : Dev nD × Fin 27 => (dutyTok ER (recvCell x.1 x.2) 0 0 : sProp 𝕄)), bigSep_univ_equiv msgEquiv, bigSep_univ_prod]
    rfl
  rw [bigSep_sep', bigSep_sep', bigSep_sep', bigSep_sep', h₁, h₂]

/-- What stays with device `c`: where it is in the rounds of its cells, the tokens it pays with, the semaphore it does not use. -/
def ghost (c : Dev nD) : sProp 𝕄 :=
  iprop((bigSep Finset.univ fun k : CI => atPos ER (kcell (c, k)) 0 ∅ 0) ∗ payToks (F := F) c ∗ semVal (localCell c) 0)

/-- What the set-up leaves device `c` with. -/
def G' (c : Dev nD) : sProp 𝕄 := iprop(∃ K, records m K ∗ ghost (F := F) c)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (xRd m) κ (kcell (c, k))))
          ∗ (bigSep Finset.univ fun k => iprop(atPos ER (kcell (c, k)) 0 ∅ 0 ∗ reached ER (kcell (c, k)) 0)) ∗ toks (F := F) c ∗ semVal (localCell c) 0) : sProp 𝕄)
      ⊢ bigSep Finset.univ (G' m) := by
  rw [bigSep_sep', bigSep_sep', bigSep_sep', ← bigSep_univ_prod (fun ck : Dev nD × CI => iprop(∃ κ : ℕ, cellInv ER (xRd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok, HL⟩
  ihave HK := (BI.bigSep_exists_pi Finset.univ (fun (ck : Dev nD × CI) (κ : ℕ) => (cellInv ER (xRd m) κ (kcell ck) : sProp 𝕄))) $$ HI
  icases HK with ⟨%K, #HI⟩
  ihave Htk := (toks_around (F := F)) $$ Htok
  iapply (bigSep_with_persistent (R := records m K) (Φ := fun c => ghost (F := F) c) fun c _ => show iprop(records m K ∗ ghost (F := F) c) ⊢ G' m c from by
    unfold G'; iintro H; iexists K; iexact H)
  isplitr
  · unfold records; isplitl; · iexact HI
    iexact HR
  · unfold ghost; simp only [bigSep_sep']
    isplitl [Hat]; · iexact Hat
    isplitl [Htk] <;> iassumption

omit [FloatOps F] in
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What device `c` owes at launch. -/
def O₀ (c : Dev nD) : CellTallies nD τ sig Unit := owedBar c (owed c sendOrder) [0, 1, 2]

theorem bar_eq_iff {a b : Dev nD} : barCell a = barCell b ↔ a = b := ⟨fun h => congrArg (fun g : GSem nD τ sig => g.1.1) h, fun h => h ▸ rfl⟩
theorem recv_eq_iff {a b : Dev nD} {i j : Fin 27} : recvCell a i = recvCell b j ↔ a = b ∧ i = j :=
  ⟨fun h => ⟨congrArg (fun g : GSem nD τ sig => g.1.1) h, recvS_injective (SemLoc.dma.inj (congrArg Prod.snd h))⟩, fun h => by rw [h.1, h.2]⟩
theorem bar_ne_recv (a b : Dev nD) (j : Fin 27) : barCell a ≠ recvCell b j := fun h => by cases congrArg Prod.snd h

theorem owed_bar (d c : Dev nD) : ∀ a : List (Fin 27), owed d a (barCell c) () = 0
  | [] => rfl
  | j :: a => by
    unfold owed
    rw [Pi.add_apply, Finsupp.add_apply, owed_bar d c a, tallyAt_ne_cell (bar_ne_recv _ _ _)]; rfl

theorem owed_recv (d c : Dev nD) (j : Fin 27) : ∀ a : List (Fin 27), a.Nodup →
    owed d a (recvCell c j) () = if d = snd c j ∧ j ∈ a then amt j else 0
  | [], _ => by rw [if_neg fun h => absurd h.2 (List.not_mem_nil)]; rfl
  | i :: a, hn => by
    have hn' := List.nodup_cons.mp hn
    unfold owed
    rw [Pi.add_apply, Finsupp.add_apply, owed_recv d c j a hn'.2, tallyAt_apply]
    by_cases hj : j = i
    · subst hj
      rw [if_neg fun h => hn'.1 h.2, Nat.zero_add]
      by_cases hd : d = snd c j
      · rw [if_pos ⟨by rw [hd, tgt_snd], rfl⟩, if_pos ⟨hd, List.mem_cons_self⟩]
      · rw [if_neg fun h => hd (by rw [(recv_eq_iff.mp h.1).1, snd_tgt]), if_neg fun h => hd h.1]
    · rw [if_neg (c := recvCell c j = recvCell (tgt d i) i ∧ () = ()) fun h => hj (recv_eq_iff.mp h.1).2, Nat.add_zero]
      by_cases h : d = snd c j ∧ j ∈ a
      · rw [if_pos h, if_pos ⟨h.1, List.mem_cons_of_mem _ h.2⟩]
      · rw [if_neg h, if_neg fun h' => h ⟨h'.1, (List.mem_cons.mp h'.2).resolve_left hj⟩]

theorem O₀_bar (d c : Dev nD) : O₀ d (barCell c) () = ((if d = nbr (back 2) c then 1 else 0) + if d = nbr (back 1) c then 1 else 0) + if d = nbr (back 0) c then 1 else 0 := by
  have h (t : Fin 3) : (tallyAt (barCell (nbr t d)) () 1 : CellTallies nD τ sig Unit) (barCell c) () = if d = nbr (back t) c then 1 else 0 := by
    rw [tallyAt_apply]
    by_cases hd : d = nbr (back t) c
    · rw [if_pos ⟨by rw [hd, nbr_back], rfl⟩, if_pos hd]
    · rw [if_neg fun h => hd (by rw [bar_eq_iff.mp h.1, back_nbr]), if_neg hd]
  unfold O₀ owedBar owedBar owedBar owedBar
  simp only [Pi.add_apply, Finsupp.add_apply]
  rw [owed_bar, h, h, h, Nat.zero_add]

theorem O₀_recv (d c : Dev nD) (j : Fin 27) : O₀ d (recvCell c j) () = if d = snd c j then amt j else 0 := by
  unfold O₀ owedBar owedBar owedBar owedBar
  simp only [Pi.add_apply, Finsupp.add_apply]
  rw [tallyAt_ne_cell (bar_ne_recv _ _ _).symm, tallyAt_ne_cell (bar_ne_recv _ _ _).symm, tallyAt_ne_cell (bar_ne_recv _ _ _).symm,
    owed_recv d c j sendOrder (by decide)]
  simp only [Finsupp.zero_apply, Nat.add_zero]
  have hj : j ∈ sendOrder := by revert j; decide
  by_cases h : d = snd c j
  · rw [if_pos ⟨h, hj⟩, if_pos h]
  · rw [if_neg fun h' => h h'.1, if_neg h]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib, Finset.sum_add_distrib,
    Finset.sum_ite_eq' Finset.univ _ fun _ => 1, Finset.sum_ite_eq' Finset.univ _ fun _ => 1, Finset.sum_ite_eq' Finset.univ _ fun _ => 1,
    if_pos (Finset.mem_univ _), if_pos (Finset.mem_univ _), if_pos (Finset.mem_univ _)]

theorem launch_recv (c : Dev nD) (j : Fin 27) :
    tallyOn (recvCell c j) (launchCredit (Pipeline.owing O₀) 0 (recvCell c j)) = (tallyAt (recvCell c j) () (amt j) : CellTallies nD τ sig Unit) := by
  unfold tallyAt; refine congrArg _ (Finsupp.ext fun u => ?_); cases u
  rw [Pipeline.launchCredit_owing, Finsupp.single_eq_same, Finset.sum_congr rfl fun d _ => O₀_recv d c j, Finset.sum_ite_eq' Finset.univ (snd c j) fun _ => amt j,
    if_pos (Finset.mem_univ _)]

omit [FloatOps F] in
theorem creds (c : Dev nD) :
    (Pipeline.launchCred O₀ c : sProp 𝕄)
      ⊢ iprop(cred (tallyAt (barCell c) () 3) ∗ bigSep Finset.univ fun j : Fin 27 => cred (tallyAt (recvCell c j) () (amt j))) := by
  unfold Pipeline.launchCred
  refine (bigSep_subset (Finset.subset_univ (Finset.univ.map ⟨csem, csem_injective⟩))).trans ?_
  rw [bigSep_map, bigSep_CI]
  show iprop(cred (tallyOn (barCell c) (launchCredit (Pipeline.owing O₀) 0 (barCell c)))
    ∗ (bigSep Finset.univ fun j => cred (tallyOn (sendCell c j) (launchCredit (Pipeline.owing O₀) 0 (sendCell c j))))
    ∗ (bigSep Finset.univ fun j => cred (tallyOn (recvCell c j) (launchCredit (Pipeline.owing O₀) 0 (recvCell c j))))) ⊢ _
  rw [launch_bar, bigSep_congr fun j _ => congrArg (fun x => (cred x : sProp 𝕄)) (launch_recv c j)]
  iintro ⟨HB, -, HR⟩
  isplitl [HB] <;> iassumption

end Cert.KernelIdealProof

end
-- ==== Proof.KernelIdealRun.lean ====
/-
The run with the swapping table: every device ends with its block as it was, its result as described by `W`, and every
semaphore at rest.
-/
module

public import proofs.«01_k».proof.Proof.KernelIdealLaunch
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen Cert.Mesh Cert.Lists

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The table -/

/-- The table as the kernel finds it staged. -/
def tab (c : Dev nD) : (cc0_stg0_0 : Ref sig .tc).ty.Contents (Elt F) :=
  (win0_0.blk (0 : Fin 1)).view.read (Elt F) (m ((c : Thread nD τ).loc main_arg1))

theorem tab_eq (c : Dev nD) : tab m c = m ((c : Thread nD τ).loc main_arg1) := by
  funext i
  unfold tab View.read
  refine congrArg (m ((c : Thread nD τ).loc main_arg1)) (funext fun a => Fin.ext ?_)
  fin_cases a
  exact (Nat.zero_add _).trans (Nat.one_mul _)

/-- Device `c`'s table exchanges the two halves of the mesh. -/
def Swaps (c : Dev nD) : Prop := m ((c : Thread nD τ).loc main_arg1) = fun i => if (i 0).val = 0 then 1#32 else 0#32

/-! ## What a device holds around the kernel -/

/-- Device `c`'s block as it was, and its result array holding `v`. -/
def arrs (c : Dev nD) (v : Buf (Elt F) (oLoc c)) : sProp 𝕄 :=
  iprop(((xLoc c) ↦{fullShare} m (xLoc c)) ∗ ((oLoc c) ↦{fullShare} v))

/-- Before: the exchange's records and what the device pays and waits with, its arrays. -/
def Φ₀ (c : Dev nD) : sProp 𝕄 :=
  iprop(G' m c ∗ cred (tallyAt (barCell c) () 3) ∗ (bigSep Finset.univ fun j : Fin 27 => cred (tallyAt (recvCell c j) () (amt j)))
    ∗ levAts L lv ∗ arrs m c (m (oLoc c)))
/-- After: its arrays, its semaphores at rest. -/
def Φ₁ (c : Dev nD) : sProp 𝕄 :=
  iprop(arrs m c (W m c) ∗ semVal (barCell c) 0
    ∗ (((bigSep Finset.univ fun j => semVal (sendCell c j) 0) ∗ (bigSep Finset.univ fun j => semVal (recvCell c j) 0)) ∗ semVal (localCell c) 0))

def dats (_ : Fin 1) (c : Dev nD) : Dat τ (Elt F) Unit ℕ UU ℕ cfg0 c where
  A w := m ((cfg0.win w).arr.view.loc (c : Thread nD τ))
  after w _ := match w with
    | ⟨0, _⟩ => tab m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_0 (t : Fin cfg0.N) : (cfg0.win (0 : Fin 1)).fetch t = true := fetch0_0 t

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The kernel -/

/-- What a device holds, sorted into what the barrier, the exchange and neither takes. -/
theorem sort_start (K : Dev nD × CI → ℕ) (c : Dev nD) :
    iprop((records m K ∗ ghost (F := F) c) ∗ (∃ W, owes c.tc (O₀ c) W) ∗ cred (tallyAt (barCell c) () 3)
        ∗ (bigSep Finset.univ fun j : Fin 27 => cred (tallyAt (recvCell c j) () (amt j))) ∗ levAts L lv ∗ arrs m c (m (oLoc c)))
      ⊢ Pre m K c [0, 1, 2] iprop(Start m c ∗ xRest m c ∗ semVal (localCell c) 0) := by
  have hs : sepList (sig₀ (F := F) c) [0, 1, 2]
      = iprop((bigSep Finset.univ fun t : Fin 3 => dutyTok ER (barCell (nbr t c)) 0 (back t)) ∗ sepList (fun t => barPay (F := F) (nbr t c) (back t)) [0, 1, 2]) := by
    rw [← sepList_eq (fun t : Fin 3 => dutyTok ER (barCell (nbr t c)) 0 (back t)) (l := [0, 1, 2]) Finset.univ (by decide) (by decide), ← sepList_sep]
    rfl
  have ht : sepList (toks₀ (F := F) c) sendOrder
      = iprop((bigSep Finset.univ fun j : Fin 27 => dutyTok ER (sendCell c j) 0 0) ∗ (bigSep Finset.univ fun j : Fin 27 => dutyTok ER (recvCell (tgt c j) j) 0 0)) := by
    rw [sepList_eq (toks₀ (F := F) c) Finset.univ (by decide) (by decide), ← bigSep_sep']
    rfl
  have hd : sepList (due (F := F) c) recvOrder
      = iprop((bigSep Finset.univ fun j : Fin 27 => atPos ER (recvCell c j) 0 ∅ 0) ∗ (bigSep Finset.univ fun j : Fin 27 => cred (tallyAt (recvCell c j) () (amt j)))) := by
    rw [sepList_eq (due (F := F) c) Finset.univ (by decide) (by decide), ← bigSep_sep']
    rfl
  have ha : sepList (fun j => (atPos ER (sendCell c j) 0 ∅ 0 : sProp 𝕄)) allList = bigSep Finset.univ fun j : Fin 27 => atPos ER (sendCell c j) 0 ∅ 0 :=
    sepList_eq _ Finset.univ (by decide) (by decide)
  unfold Pre Start ghost payToks arrs
  rw [hs, ht, hd, ha, bigSep_CI]
  iintro ⟨⟨HR, ⟨HaB, HaS, HaV⟩, ⟨HtB, HtS, HtV⟩, HL⟩, HO, HcB, HcV, Hlev, Hx, Ho⟩
  ihave Hx' := (x_split m c).1 $$ Hx
  icases Hx' with ⟨Hx, Hxr⟩
  isplitl [HR]; · iexact HR
  isplitl [Hlev]; · iexact Hlev
  isplitl [HO]; · iexact HO
  isplitl [HtB Ho]
  · isplitl [HtB]; · iexact HtB
    iapply (out_split (F := F) c (m (oLoc c))); iexact Ho
  isplitl [HaB]; · iexact HaB
  isplitl [HcB]; · iexact HcB
  isplitr [Hxr HL]
  · isplitl [HtS HtV]
    · isplitl [HtS] <;> iassumption
    isplitl [Hx]; · iexact Hx
    isplitl [HaV HcV]
    · isplitl [HaV] <;> iassumption
    iexact HaS
  · isplitl [Hxr] <;> iassumption

/-- What a device holds when the exchange is over is what it has to show. -/
theorem sort_end (K : Dev nD × CI → ℕ) (c : Dev nD) :
    iprop(Final m K c ∗ semVal (barCell c) 0 ∗ xRest m c ∗ semVal (localCell c) 0)
      ⊢ iprop(Φ₁ m c ∗ ∃ W, owes c.tc 0 W) := by
  iintro ⟨HF, HB, Hxr, HL⟩
  ihave H := (final_after m K c) $$ HF
  unfold After Φ₁ arrs
  icases H with ⟨Hx, Ho, HO, HS, HV⟩
  isplitr [HO]
  · isplitl [Hx Hxr Ho]
    · isplitl [Hx Hxr]
      · iapply (x_split m c).2; isplitl [Hx] <;> iassumption
      · iexact Ho
    isplitl [HB]; · iexact HB
    isplitr [HL]
    · isplitl [HS] <;> iassumption
    · iexact HL
  · iexact HO

def bodyPre (c : Dev nD) : sProp 𝕄 :=
  iprop(Φ₀ m c ∗ (dats m 0 c).owesAt () t0_0.castSucc ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (tab m c))

/-- The kernel on device `c`. -/
theorem body_run (c : Dev nD) (hT : Swaps m c) : bodyPre m c ⊢ wp frame (wpE (defs₀ (F := F)) 𝒱₀ c.tc none) Set.univ
    (cc0_body (Memref.whole cc0_stg0_0) (Memref.isWhole_whole _) (Memref.whole main_arg0) (Memref.isWhole_whole _) (Memref.whole main_v1) (Memref.isWhole_whole _) cc0_scratch0 cc0_scratch1 cc0_scratch2)
    (fun _ => bodyPost m c) := by
  unfold bodyPre Φ₀ G'
  iintro ⟨⟨⟨%K, Hg⟩, HcB, HcV, Hlev, Harr⟩, Ho, ⟨%d, %g, %hg, Ht⟩⟩
  have hx : g = tab m c := by rw [hg]; unfold Dat.before; rw [if_pos (fetch_0 t0_0)]; rfl
  subst hx
  unfold Dat.owesAt Pipeline.owesWithin
  icases Ho with ⟨%W, %hW, HO⟩
  rw [show (dats m 0 c).owed t0_0.castSucc = O₀ c from rfl]
  have hpost : ∀ a : PUnit, iprop(Final m K c ∗ semVal (barCell c) 0 ∗ iprop(xRest m c ∗ semVal (localCell c) 0) ∗ (((c : Thread nD τ).loc cc0_stg0_0) ↦{fullShare} tab m c))
      ⊢ bodyPost m c := fun _ => by
    have h := sort_end m K c
    iintro ⟨HF, HB, HX, Ht⟩
    ihave H := h $$ [HF HB HX]
    · isplitl [HF]; · iexact HF
      isplitl [HB] <;> iassumption
    icases H with ⟨H, ⟨%W', HO⟩⟩
    unfold bodyPost Dat.owesAt Pipeline.owesWithin
    rw [show (dats m 0 c).owed t0_0.succ = 0 from rfl]
    isplitl [H]; · iexact H
    isplitl [HO]
    · iexists W'
      isplitr; · ipureintro; exact fun _ _ => Or.inl trivial
      iexact HO
    · iexists _; isplitr; · (ipureintro; rfl)
      iexact Ht
  have hb := (body_swap m K c iprop(xRest m c ∗ semVal (localCell c) 0) (tab m c) ((tab_eq m c).trans hT)).trans (wp_mono _ _ _ hpost)
  iapply hb
  isplitr [Ht]
  · iapply (sort_start m K c)
    isplitl [Hg]; · iexact Hg
    isplitl [HO]; · iexists W; iexact HO
    isplitl [HcB]; · iexact HcB
    isplitl [HcV]; · iexact HcV
    isplitl [Hlev] <;> iassumption
  · iexact Ht

theorem body_obligation (hT : ∀ c, Swaps m c) (c : Dev nD) : BodyObligation (dats (F := F) m 0 c) (defs₀ (F := F)) 𝒱₀ () Set.univ := fun t => by
  rw [fin_N0 t]
  rw [bigSep_W0, bigSep_W0]
  simp only [owns_whole_eq]
  exact body_run m c (hT c)

/-! ## The run -/

theorem share_eq (c : Dev nD) (w : Fin cfg0.W) : (dats m 0 c).share w = fullShare := by unfold Dat.share; split <;> rfl

theorem waits (c : Dev nD) : (levAts L lv : sProp 𝕄) ⊢ Pipeline.cellsWaits cfgs (dats m) () 0 c :=
  Pipeline.cellsWaits_intro cfgs (dats m) () 0 c fun w s t => by
    have h : ∀ O : CellTallies nD τ sig Unit, O = O₀ c ∨ O = 0 → (levAts L lv : sProp 𝕄) ⊢ MayWait c.tc (.dma ((cfg0.win w).sem s)) () O := by
      rintro O (rfl | rfl)
      · exact mayWait_stage c _ (by fin_cases w <;> fin_cases s <;> rfl) sendOrder [0, 1, 2]
      · rw [MayWait_zero]; iintro -; iempintro
    refine h _ ?_
    rcases t with ⟨_ | _, ht⟩
    · exact Or.inl rfl
    · exact Or.inr rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Φ₀ m c ∗ emp) := by
  rw [show (Pipeline.unscopedRestP Pipeline.Prefetch.none cfg0.spec c (fun b => m ((c : Thread nD τ).loc b)) : sProp 𝕄)
      = Pipeline.unscopedRest spec0 c (fun b => m ((c : Thread nD τ).loc b)) from Pipeline.unscopedRestP_none _ _ _, unscopedRest0_eq]
  iintro ⟨⟨Hx, Ho⟩, Hlev, Hcr, -, HG⟩
  ihave Hc := (creds (F := F) c) $$ Hcr
  icases Hc with ⟨H1, HN⟩
  imodintro
  unfold Φ₀ arrs
  isplitl
  · isplitl [HG]; · iexact HG
    isplitl [H1]; · iexact H1
    isplitl [HN]; · iexact HN
    isplitl [Hlev]; · iexact Hlev
    isplitl [Hx] <;> iassumption
  · iempintro

theorem phi0_intro (c : Dev nD) :
    iprop(Φ₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  iintro ⟨Hs, -, -⟩
  iexact Hs

theorem phi1_exit (c : Dev nD) :
    (dats m 0 c).Φ (Fin.last cfg0.N) ⊢ iprop((arrs m c (W m c) ∗ unscopedSems0 c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁
  iintro ⟨Ha, HB, HS⟩
  isplitl [Ha HB]
  · isplitl [Ha] <;> iassumption
  isplitl [HS]; · iexact HS
  iempintro

omit [FloatOps F] in
/-- The arrays and the barrier semaphore a device holds at the end are what the machine's state shows. -/
theorem arrs_read (c : Dev nD) (v : Buf (Elt F) (oLoc c)) (s' : Phys nD τ sig (Elt F)) :
    iprop((arrs m c v ∗ unscopedSems0 c) ∗ emp ∗ SI s')
      ⊢ |={Set.univ}=> iprop(⌜(s'.mem.mem (xLoc c) = m (xLoc c) ∧ s'.mem.mem (oLoc c) = v)
          ∧ ∀ sm : SemLoc sig, sm.isScoped .tc = false → s'.mem.sem ((c.tc : Thread nD τ), sm) = 0⌝ ∗ SI s' : sProp 𝕄) := by
  unfold arrs
  iintro ⟨⟨⟨Hx, Ho⟩, Hu⟩, -, HSI⟩
  icombine HSI Hx gives %hx
  icombine HSI Ho gives %ho
  imod (Pipeline.unscopedSems0_read (X := unscopedSems0 c) (c := c) fupd_intro s') $$ [Hu HSI] with ⟨%hz, HSI⟩
  · isplitl [Hu] <;> iassumption
  imodintro
  isplitr; · ipureintro; exact ⟨⟨Buf.eq_of_forall_mem_univ hx, Buf.eq_of_forall_mem_univ ho⟩, hz⟩
  iexact HSI

/-- The state at the end when device `c`'s result is `v c`: both arguments as they were, every semaphore at rest. -/
def Done (v : (c : Dev nD) → Buf (Elt F) (oLoc c)) (r : PUnit × MemSt nD τ sig (Elt F)) : Prop :=
  (∀ c : Dev nD, r.2.mem ((c.tc : Thread nD τ).loc main_v1) = v c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0

set_option maxRecDepth 8000 in
theorem run_swapped (hT : ∀ c, Swaps m c) : θ_run defs (onTc (τ := τ) (main (F := F))) ⟨m, fun _ => 0, ρ⟩ (Done m (W m)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m hT c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := Φ₀ m) (Y := fun c => iprop(arrs m c (W m c) ∗ unscopedSems0 c)) (Z := fun _ => iprop(emp))
    (hX := start_intro m ρ) (hin := phi0_intro m) (hout := phi1_exit m)
    (QY := fun c s => (s.mem (xLoc c) = m (xLoc c) ∧ s.mem (oLoc c) = W m c) ∧ ∀ sm : SemLoc sig, sm.isScoped .tc = false → s.sem ((c.tc : Thread nD τ), sm) = 0)
    (hY := fun c s' => arrs_read m c (W m c) s')
    (hQ := fun _ h hs => ⟨fun c => ⟨(h c).2.2.1.2, (h c).2.2.1.1, ((h c).1 0).trans ((dats m 0 c).arrAt_in 0 rfl _)⟩, sem_eq_zero hs fun c => (h c).2.2.2⟩)

end Cert.KernelIdealProof

end
-- ==== Proof.KernelIdealKept.lean ====
/-
The kernel with the table that keeps every block where it is: a device copies its block into its result within its own
memory, waits for the copy and ends; nothing crosses between devices.
-/
module

public import proofs.«01_k».proof.Proof.KernelIdealRun
public import Idealize.ShloMosaic.Lib.Transfers
public import Idealize.ShloMosaic.Lib.Pipeline.KitQuiescent

@[expose] public section

noncomputable section

namespace Cert.KernelIdealKept

open Cert.KernelIdeal Cert.KernelIdeal.Gen
open Cert.KernelIdealProof (𝒱₀ tab tab_eq xLoc oLoc osem ownSemFacts localS localCell Done sendS recvS)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

/-! ## The resources -/

abbrev UK : Type := UR sig nD τ × Counters

local notation "𝕄" => MT nD τ sig Unit (Elt F) ℕ UK ℕ

abbrev EP : Emb (UR sig nD τ) (MT nD τ sig Unit (Elt F) ℕ UK ℕ) := embL
abbrev EC : UEmb Counters (MT nD τ sig Unit (Elt F) ℕ UK ℕ) := countersEmb

variable (m : (ℓ : Loc nD τ sig) → Buf (Elt F) ℓ) (ρ : Dev nD → PrngReg)

/-- Device `c`'s table leaves every block where it is. -/
def Keeps (c : Dev nD) : Prop := m ((c : Thread nD τ).loc main_arg1) = fun i => if (i 0).val = 0 then 0#32 else 1#32

/-! ## The kernel's text -/

/-- The word of the table a device reads: its own x. -/
def dk (c : Dev nD) : BitVec 32 := if c.val / 4 = 0 then 0#32 else 1#32

theorem chk_dk : ∀ c : Dev nD, k0_chk1 c (dk c) := by decide +kernel
theorem not_swaps : ∀ c : Dev nD, ¬ k0_cond2 c (dk c) = 1#1 := by decide +kernel
theorem keeps : ∀ c : Dev nD, Scalar.cmpi .ne (Scalar.extui (Scalar.cmpi .eq (dk c) (Scalar.remsi (Scalar.divsi (Dev.word c) 4#32) 2#32)) : BitVec 32) 0#32 = 1#1 := by decide +kernel
theorem word_at : ∀ c : Dev nD, (fun i : S2.Idx => if (i 0).val = 0 then 0#32 else (1#32 : BitVec 32)) ((Rect.unit (s := S2) (k0_off1 c) S1.size (k0_off1_inb c)).emb (Shape.Idx.first (numel1_S1.symm ▸ Nat.one_pos))) = dk c := by decide +kernel

/-- How much the copy credits its semaphore with. -/
abbrev NK : ℕ := (Memref.whole main_v1 : Memref sig .tc .hbm S1x1024x1024 .f32).view.dmaCredit
theorem NK_pos : 0 < NK := sig.dmaCredit_pos _ _ _ _ _ (by decide)

/-- What a device holds around the kernel: its block and its result array, -/
def arrs (c : Dev nD) (v : Buf (Elt F) (oLoc c)) : sProp 𝕄 :=
  iprop(((xLoc c) ↦{fullShare} m (xLoc c)) ∗ ((oLoc c) ↦{fullShare} v))

/-- What the finished copy hands back: the result array holding the block, the block as it was. -/
theorem copied (c : Dev nD) (v : Buf (Elt F) (oLoc c)) :
    iprop(((Memref.whole main_v1 : Memref sig .tc .hbm S1x1024x1024 .f32).view.loc (c : Thread nD τ) ↦[Finset.univ]{fullShare}
          ((Memref.whole main_v1 : Memref sig .tc .hbm S1x1024x1024 .f32).view.write (Elt F) v
            ((ReadAs.same : ReadAs (Elt F) S1x1024x1024 .f32 S1x1024x1024 .f32).apply ((Memref.whole main_arg0 : Memref sig .tc .hbm S1x1024x1024 .f32).view.read (Elt F) (m (xLoc c)))) Finset.univ))
        ∗ ((Memref.whole main_arg0 : Memref sig .tc .hbm S1x1024x1024 .f32).view.loc (c : Thread nD τ) ↦[(Memref.whole main_arg0 : Memref sig .tc .hbm S1x1024x1024 .f32).view.set]{fullShare} m (xLoc c)))
      ⊢ (arrs m c (m (xLoc c)) : sProp 𝕄) := by
  simp only [Memref.view_whole, View.read_whole, View.write_whole_univ, View.set_whole]
  unfold arrs
  iintro ⟨Ho, Hx⟩
  isplitl [Hx]; · iexact Hx
  iexact Ho

set_option maxRecDepth 8000 in
/-- The body with the table that keeps every block: the copy within the device. -/
theorem body_keep (c : Dev nD) (v : Buf (Elt F) (oLoc c)) (T : Buf (Elt F) ((c : Thread nD τ).loc cc0_stg0_0))
    (hT : T = fun i => if (i 0).val = 0 then 0#32 else 1#32) {R : sProp 𝕄} {Wt : Waits sig Unit} :
    iprop((arrs m c v ∗ semVal (localCell c) 0 ∗ owes c.tc 0 Wt ∗ R) ∗ (((c : Thread nD τ).loc cc0_stg0_0) ↦{fullShare} T))
      ⊢ wp frame (wpE (defs₀ (F := F)) 𝒱₀ c.tc none) Set.univ
          (cc0_body (Memref.whole cc0_stg0_0) (Memref.isWhole_whole _) (Memref.whole main_arg0) (Memref.isWhole_whole _) (Memref.whole main_v1) (Memref.isWhole_whole _) cc0_scratch0 cc0_scratch1 cc0_scratch2)
          (fun _ => iprop(arrs m c (m (xLoc c)) ∗ semVal (localCell c) 0 ∗ (∃ Wt, owes c.tc 0 Wt) ∗ R ∗ (((c : Thread nD τ).loc cc0_stg0_0) ↦{fullShare} T))) := by
  simp only [cc0_body_eq_skeleton]; unfold cc0_body_skel
  simp only [semSignalWord, semWaitWord, smemLoad, smemLoadElt, Prog.lift, Prog.bind_op, Prog.bind_ret, Prog.pure_eq_ret, wp_deviceId]
  iintro ⟨⟨Ha, Hs, HO, HR⟩, Ht⟩
  iapply (wp_load_rect 𝒱₀ (c : Thread nD τ) none Set.univ (m := Memref.whole cc0_stg0_0) (r := Rect.unit (s := S2) (k0_off1 c) S1.size (k0_off1_inb c)) (S := Finset.univ) (q := fullShare) (f := T) (Finset.subset_univ _)) $$ Ht; iintro Ht
  have hv : ((Memref.whole cc0_stg0_0).access (Rect.unit (s := S2) (k0_off1 c) S1.size (k0_off1_inb c))).read (Elt F) T (Shape.Idx.first (numel1_S1.symm ▸ Nat.one_pos)) = dk c := by
    subst hT
    rw [View.read_apply]
    exact word_at c
  rw [hv]
  rw [wp_assume_of _ _ _ _ (d := k0_chk1.dec _ _) (chk_dk c)]
  rw [if_pos (keeps c), dif_neg (not_swaps c)]
  clear hv hT
  simp only [Prog.lift, Prog.bind_op, Prog.bind_ret, Prog.pure_eq_ret]
  unfold arrs
  icases Ha with ⟨Hx, Ho⟩
  iapply (Transfers.wp_dmaLocal EC 𝒱₀ (c : Thread nD τ) none (src := Memref.whole main_arg0) (dst := Memref.whole main_v1) (sm := .dma localS) (q := fullShare)
    (fs := m (xLoc c)) (Sd := Finset.univ) (fd := v) () NK rfl NK_pos (Finset.subset_univ _)) $$ [Hx Ho Hs]
  · isplitl [Hx]
    · simp only [Memref.view_whole, View.set_whole]; iexact Hx
    isplitl [Ho] <;> iassumption
  iintro HF
  iapply (Transfers.wp_waitLocal EC 𝒱₀ (c : Thread nD τ) none () rfl) $$ [HF HO]
  · isplitl [HF] <;> iassumption
  iintro ⟨⟨Ho, Hx⟩, Hs, HO⟩
  iapply (le_wp_ret _ _ _ _ _)
  isplitl [Hx Ho]
  · have h := copied m c v
    unfold arrs at h
    iapply h
    isplitl [Ho] <;> iassumption
  isplitl [Hs]; · iexact Hs
  isplitl [HO]; · iexists _; iexact HO
  isplitl [HR] <;> iassumption

/-! ## The pipeline around it -/

/-- A device's other semaphores at rest: the barrier's is not the kernel's here, the send and receive semaphores are. -/
def idle (c : Dev nD) : sProp 𝕄 :=
  iprop((bigSep Finset.univ fun j => semVal (Cert.KernelIdealProof.sendCell c j) 0) ∗ (bigSep Finset.univ fun j => semVal (Cert.KernelIdealProof.recvCell c j) 0))

theorem ownSems0_eq (c : Dev nD) : (Pipeline.ownSems0 (Ix := Unit) (Name := ℕ) (U := UK) (Lvl := ℕ) (Val := Elt F) (τ := τ) osem c : sProp 𝕄)
    = iprop(idle c ∗ semVal (localCell c) 0) := by
  unfold Pipeline.ownSems0 idle
  rw [bigSep_univ_sum, bigSep_univ_sum]
  congr 1
  exact bigSep_univ_eq_bigSepL [()] (by decide) (by decide) _

/-- Around the kernel: the arrays, the result array at `v`, and the kernel's own semaphores at rest. -/
def Φk (c : Dev nD) (v : Buf (Elt F) (oLoc c)) : sProp 𝕄 :=
  iprop(arrs m c v ∗ idle c ∗ semVal (localCell c) 0)

def dats (_ : Fin 1) (c : Dev nD) : Dat τ (Elt F) Unit ℕ UK ℕ cfg0 c where
  A w := m ((cfg0.win w).arr.view.loc (c : Thread nD τ))
  after w _ := match w with
    | ⟨0, _⟩ => tab m c
  Φ t := match t with
    | ⟨0, _⟩ => Φk m c (m (oLoc c))
    | ⟨_ + 1, _⟩ => Φk m c (m (xLoc c))
  q _ := fullShare
  owed _ := 0

omit [FloatOps F] in
theorem owns_whole_eq (c : Dev nD) (b : Ref sig .tc) (X : b.ty.Contents (Elt F)) :
    (owns (Ix := Unit) (Name := ℕ) (U := UK) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φk m c (m (oLoc c)) ∗ (dats m 0 c).owesAt () t0_0.castSucc ∗ (∃ d, stg c cc0_stg0_0 ((dats m 0 c).before (0 : Fin 1) t0_0 d)))
def bodyPost (c : Dev nD) : sProp 𝕄 :=
  iprop(Φk m c (m (xLoc c)) ∗ (dats m 0 c).owesAt () t0_0.succ ∗ stg c cc0_stg0_0 (tab m c))

theorem body_run (c : Dev nD) (hT : Keeps m c) : bodyPre m c ⊢ wp frame (wpE (defs₀ (F := F)) 𝒱₀ c.tc none) Set.univ
    (cc0_body (Memref.whole cc0_stg0_0) (Memref.isWhole_whole _) (Memref.whole main_arg0) (Memref.isWhole_whole _) (Memref.whole main_v1) (Memref.isWhole_whole _) cc0_scratch0 cc0_scratch1 cc0_scratch2)
    (fun _ => bodyPost m c) := by
  unfold bodyPre Φk
  iintro ⟨⟨Harr, Hid, Hs⟩, Ho, ⟨%d, %g, %hg, Ht⟩⟩
  have hx : g = tab m c := by rw [hg]; unfold Dat.before; rw [if_pos (Cert.KernelIdealProof.fetch_0 t0_0)]; rfl
  subst hx
  unfold Dat.owesAt Pipeline.owesWithin
  icases Ho with ⟨%W, %hW, HO⟩
  rw [show (dats m 0 c).owed t0_0.castSucc = 0 from rfl]
  have hpost : ∀ a : PUnit, iprop(arrs m c (m (xLoc c)) ∗ semVal (localCell c) 0 ∗ (∃ Wt, owes c.tc 0 Wt) ∗ idle c ∗ (((c : Thread nD τ).loc cc0_stg0_0) ↦{fullShare} tab m c))
      ⊢ bodyPost m c := fun _ => by
    iintro ⟨Ha, Hs, ⟨%W', HO⟩, Hid, Ht⟩
    unfold bodyPost Φk Dat.owesAt Pipeline.owesWithin
    rw [show (dats m 0 c).owed t0_0.succ = 0 from rfl]
    isplitl [Ha Hs Hid]
    · isplitl [Ha]; · iexact Ha
      isplitl [Hid] <;> iassumption
    isplitl [HO]
    · iexists W'
      isplitr; · ipureintro; exact fun _ _ => Or.inl trivial
      iexact HO
    · iexists _; isplitr; · (ipureintro; rfl)
      iexact Ht
  have hb := (body_keep m c (m (oLoc c)) (tab m c) ((tab_eq m c).trans hT) (R := idle c) (Wt := W)).trans (wp_mono _ _ _ hpost)
  iapply hb
  isplitr [Ht]
  · isplitl [Harr]; · iexact Harr
    isplitl [Hs]; · iexact Hs
    isplitl [HO] <;> iassumption
  · iexact Ht

theorem body_obligation (hT : ∀ c, Keeps m c) (c : Dev nD) : BodyObligation (dats (F := F) m 0 c) (defs₀ (F := F)) 𝒱₀ () Set.univ := fun t => by
  rw [fin_N0 t]
  rw [bigSep_W0, bigSep_W0]
  simp only [owns_whole_eq]
  exact body_run m c (hT c)

/-! ## The run -/

theorem share_eq (c : Dev nD) (w : Fin cfg0.W) : (dats m 0 c).share w = fullShare := by unfold Dat.share; split <;> rfl

def u₀ : UK := (initOf (Pipeline.cells cfgs cellOf_inj) (Pipeline.launchToks cfgs cellOf_inj), 1)

theorem start_intro (c : Dev nD) :
    iprop(Pipeline.unscopedRest spec0 c (fun b => m ((c : Thread nD τ).loc b)) ∗ Pipeline.ownSems0 osem c ∗ levels0 c ∗ prngReg c (ρ c) ∗ (emp : sProp 𝕄))
      ⊢ |={Set.univ}=> iprop(Φk m c (m (oLoc c)) ∗ emp) := by
  rw [unscopedRest0_eq, ownSems0_eq]
  iintro ⟨⟨Hx, Ho⟩, ⟨Hid, Hs⟩, -, -, -⟩
  imodintro
  unfold Φk arrs
  isplitl
  · isplitl [Hx Ho]
    · isplitl [Hx] <;> iassumption
    isplitl [Hid] <;> iassumption
  · iempintro

theorem start_enter (c : Dev nD) : iprop(Φk m c (m (oLoc c)) ∗ Pipeline.scopedRest cfg0.spec c) ⊢ (dats m 0 c).Φ 0 := by
  rw [show (dats m 0 c).Φ 0 = Φk m c (m (oLoc c)) from rfl]
  iintro ⟨Hs, -⟩
  iexact Hs

theorem end_exit (c : Dev nD) :
    (dats m 0 c).Φ (Fin.last cfg0.N) ⊢ iprop(arrs m c (m (xLoc c)) ∗ Pipeline.ownSems0 osem c ∗ Pipeline.scopedRest cfg0.spec c) := by
  rw [show (dats m 0 c).Φ (Fin.last cfg0.N) = Φk m c (m (xLoc c)) from rfl, scopedRest0_eq, ownSems0_eq]
  unfold Φk
  iintro ⟨Ha, HS⟩
  isplitl [Ha]; · iexact Ha
  isplitl [HS]; · iexact HS
  iempintro

omit [FloatOps F] in
theorem arrs_read (c : Dev nD) (v : Buf (Elt F) (oLoc c)) (s' : Phys nD τ sig (Elt F)) :
    iprop(arrs m c v ∗ emp ∗ SI s')
      ⊢ |={Set.univ}=> iprop(⌜s'.mem.mem (xLoc c) = m (xLoc c) ∧ s'.mem.mem (oLoc c) = v⌝ ∗ SI s' : sProp 𝕄) := by
  unfold arrs
  iintro ⟨⟨Hx, Ho⟩, -, HSI⟩
  icombine HSI Hx gives %hx
  icombine HSI Ho gives %ho
  imodintro
  isplitr; · ipureintro; exact ⟨Buf.eq_of_forall_mem_univ hx, Buf.eq_of_forall_mem_univ ho⟩
  iexact HSI

set_option maxRecDepth 8000 in
theorem run_kept (hT : ∀ c, Keeps m c) : θ_run defs (onTc (τ := τ) (main (F := F))) ⟨m, fun _ => 0, ρ⟩ (Done m fun c => m (xLoc c)) :=
  Pipeline.θ_run_region_kit_quiescent cfgs (dats m) () (0 : Fin 1) launch0 ownSemFacts EP defs₀ 𝒱₀ m ρ main
    (hbody := fun c => (body_obligation m hT c).loose) (hshare := share_eq m) (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [bigSep_emp_const])
      iempintro)
    (V := fun c b => m ((c : Thread nD τ).loc b))
    (hmain := Pipeline.hmain_region cfgs 0 defs₀ 𝒱₀ m main fun c => rfl)
    (hA := fun _ _ => rfl)
    (X := fun c => Φk m c (m (oLoc c))) (Y := fun c => arrs m c (m (xLoc c))) (Z := fun _ => iprop(emp))
    (hX := start_intro m ρ) (hin := start_enter m) (hout := end_exit m)
    (QY := fun c s => s.mem (xLoc c) = m (xLoc c) ∧ s.mem (oLoc c) = m (xLoc c))
    (hY := fun c s' => arrs_read m c (m (xLoc c)) s')
    (hQ := fun _ h hs => ⟨fun c => ⟨(h c).2.2, (h c).2.1, ((h c).1 0).trans ((dats m 0 c).arrAt_in 0 rfl _)⟩, hs⟩)

end Cert.KernelIdealKept

end
-- ==== Proof.Reference.lean ====
/- The reference: its operations run one after another, every buffer ends at their fold over the
   launch contents, and the result array is the argument's rows in the order the table's sort gives.
   For the table that swaps the two rows that is the rows swapped; for the table that keeps them, the
   argument itself. -/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.ReferenceProof

open Idealize.ShloMosaic Idealize.ShloMosaic.TcCoe Idealize.ShloMosaic.StableHlo Idealize.SL.Sem
open Cert.ReferenceIdeal Cert.ReferenceIdeal.Gen

variable {F : FTy → Type} [FloatOps F]

/-- How the rows are read: one whole row per entry of the index table. -/
abbrev rowsDims : GatherDims S2x1024x1024 S2x1 S2x1024x1024 :=
  gather_S2x1024x1024_S2x1_S2x1024x1024_12_0_n_n_0_1_110241024

/-- The order that sorts the table. -/
def order (p : IVec S2 32) : IVec S2 32 :=
  (Host.sort2 S2 0 comparator_i32_i32_d0 p (iotaInDim S2 32 0)).2

/-- That order as row numbers: a negative entry counts from the end. -/
def rowTable (p : IVec S2 32) : IVec S2x1 32 :=
  broadcastInDim S2x1 ![0] bcast_S2_S2x1_0
    (select (cmpi .slt (order p) (broadcastInDim S2 ![] bcast_S_S2 (constantI S_ 32 0#32)))
      (addi (order p) (broadcastInDim S2 ![] bcast_S_S2 (constantI S_ 32 2#32))) (order p))

/-- The result: the rows of the argument the row table names. -/
def out (x : FVec F S2x1024x1024 .f32) (p : IVec S2 32) : FVec F S2x1024x1024 .f32 :=
  Host.gather rowsDims x (rowTable p)

/-- The program's operations, in order. -/
abbrev ops : List (HloOp τ sig (Elt F)) :=
  [ TRef.nullary main_call0.v0 (iotaInDim S2 32 0),
    TRef.binary (.of main_arg1) main_call0.v0 main_call0.v1_0 (fun x y => (Host.sort2 S2 0 comparator_i32_i32_d0 x y).1),
    TRef.binary (.of main_arg1) main_call0.v0 main_call0.v1_1 (fun x y => (Host.sort2 S2 0 comparator_i32_i32_d0 x y).2),
    nullary main_c (constantI S_ 32 0#32),
    unary main_c main_v1 (broadcastInDim S2 ![] Facts₀.bcast_S_S2 : (⟨S_, .i32⟩ : BufTy).Contents (Elt F) → (⟨S2, .i32⟩ : BufTy).Contents (Elt F)),
    binary main_v0 main_v1 main_v2 (cmpi .slt : (⟨S2, .i32⟩ : BufTy).Contents (Elt F) → (⟨S2, .i32⟩ : BufTy).Contents (Elt F) → (⟨S2, .i1⟩ : BufTy).Contents (Elt F)),
    nullary main_c_0 (constantI S_ 32 2#32),
    unary main_c_0 main_v3 (broadcastInDim S2 ![] Facts₀.bcast_S_S2 : (⟨S_, .i32⟩ : BufTy).Contents (Elt F) → (⟨S2, .i32⟩ : BufTy).Contents (Elt F)),
    binary main_v0 main_v3 main_v4 (addi : (⟨S2, .i32⟩ : BufTy).Contents (Elt F) → (⟨S2, .i32⟩ : BufTy).Contents (Elt F) → (⟨S2, .i32⟩ : BufTy).Contents (Elt F)),
    ternary main_v2 main_v4 main_v0 main_v5 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v5 main_v6 (broadcastInDim S2x1 ![0] Facts₀.bcast_S2_S2x1_0 : (⟨S2, .i32⟩ : BufTy).Contents (Elt F) → (⟨S2x1, .i32⟩ : BufTy).Contents (Elt F)),
    binary main_arg0 main_v6 main_v7 ((fun x i => Host.gather rowsDims x i) : (⟨S2x1024x1024, .f32⟩ : BufTy).Contents (Elt F) → (⟨S2x1, .i32⟩ : BufTy).Contents (Elt F) → (⟨S2x1024x1024, .f32⟩ : BufTy).Contents (Elt F)) ]

theorem main_eq (c : Dev nD) : main (F := F) c = seq ops := by
  simp only [main, fn_argsort.body, seq, bind_assoc, pure_bind]

theorem out_eq (V : Valuation τ sig (Elt F)) :
    after ops V (main_v7 : DevRef τ sig) = out (V (main_arg0 : DevRef τ sig)) (V (main_arg1 : DevRef τ sig)) := by
  after_results_simp; rfl

theorem arg0_eq (V : Valuation τ sig (Elt F)) : after ops V (main_arg0 : DevRef τ sig) = V (main_arg0 : DevRef τ sig) := by
  simp only [after_cons, after_nil]; rfl

theorem arg1_eq (V : Valuation τ sig (Elt F)) : after ops V (main_arg1 : DevRef τ sig) = V (main_arg1 : DevRef τ sig) := by
  simp only [after_cons, after_nil]; rfl

theorem no_scoped_refs : (Finset.univ.filter fun b : Ref sig .tc => b.isScoped) = ∅ := by decide
theorem no_scoped_sems : (Finset.univ.filter fun sm : SemLoc sig => sm.isScoped .tc) = ∅ := by decide

theorem ops_within : (ops (F := F)).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

/-- The reference runs: its result is `out` of its arguments, which it leaves as they were, and no
    semaphore is left counting. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_v7)
            = out (m ((c.tc : Thread nD τ).loc main_arg0)) (m ((c.tc : Thread nD τ).loc main_arg1))
          ∧ r.2.mem ((c.tc : Thread nD τ).loc main_arg0) = m ((c.tc : Thread nD τ).loc main_arg0)
          ∧ r.2.mem ((c.tc : Thread nD τ).loc main_arg1) = m ((c.tc : Thread nD τ).loc main_arg1))
        ∧ r.2.sem = fun _ => 0 := by
  refine (θ_run defs _ _).mono (fun r h => ⟨fun c => ⟨?_, ?_, ?_⟩, ?_⟩)
    (run_seq no_scoped_refs no_scoped_sems defs main (fun _ => ops) main_eq (fun _ => ops_within) m ρ)
  · exact (h c main_v7).trans (out_eq _)
  · exact (h c main_arg0).trans (arg0_eq _)
  · exact (h c main_arg1).trans (arg1_eq _)
  · exact sem_eq_zero_of_no_sems (by decide) r.2

/-! ## What the gather reads -/

/-- The place in the row table of the entry for result row `r`. -/
def entry (r : Fin 2) : S2x1.Idx := Fin.cons r (Fin.cons (0 : Fin 1) finZeroElim)

/-- Result element `j` is element `j 1, j 2` of the row its entry names. -/
theorem gather_at (x : FVec F S2x1024x1024 .f32) (t : IVec S2x1 32) (j : S2x1024x1024.Idx) (r : Fin 2)
    (hr : min (t (entry (j 0))).toInt.toNat 1 = r.val) :
    Host.gather rowsDims x t j = x (Function.update j 0 r) := by
  unfold Host.gather
  congr 1
  funext a
  have hsi : ∀ k, rowsDims.siIdx j k = entry (j 0) := by
    intro k
    funext b
    fin_cases b
    · rfl
    · apply Fin.ext
      have h : k.val < 1 := k.isLt
      show k.val = 0
      omega
  fin_cases a
  · apply Fin.ext
    show rowsDims.start j t 0 + rowsDims.batchCoord j 0 + rowsDims.offCoord j 0 = r.val
    rw [rowsDims.batchCoord_eq_zero j 0 (by decide)]
    have ho : rowsDims.offCoord j 0 = 0 := by unfold GatherDims.offCoord; rw [dif_neg (by decide)]
    have hs : rowsDims.start j t 0 = min (t (entry (j 0))).toInt.toNat 1 := by
      unfold GatherDims.start
      rw [dif_pos (by decide), hsi]
      rfl
    rw [ho, hs, hr]; rfl
  · apply Fin.ext
    show rowsDims.start j t 1 + rowsDims.batchCoord j 1 + rowsDims.offCoord j 1 = (j 1).val
    rw [rowsDims.batchCoord_eq_zero j 1 (by decide)]
    have ho : rowsDims.offCoord j 1 = (j 1).val := by unfold GatherDims.offCoord; rw [dif_pos (by decide)]; rfl
    have hs : rowsDims.start j t 1 = 0 := by unfold GatherDims.start; rw [dif_neg (by decide)]
    rw [ho, hs]; omega
  · apply Fin.ext
    show rowsDims.start j t 2 + rowsDims.batchCoord j 2 + rowsDims.offCoord j 2 = (j 2).val
    rw [rowsDims.batchCoord_eq_zero j 2 (by decide)]
    have ho : rowsDims.offCoord j 2 = (j 2).val := by unfold GatherDims.offCoord; rw [dif_pos (by decide)]; rfl
    have hs : rowsDims.start j t 2 = 0 := by unfold GatherDims.start; rw [dif_neg (by decide)]
    rw [ho, hs]; omega

/-- The other of the two rows. -/
def other (r : Fin 2) : Fin 2 := 1 - r

/-- The table that swaps the two rows, and the one that keeps them. -/
def swapTable : IVec S2 32 := fun i => if (i 0).val = 0 then 1#32 else 0#32
def keepTable : IVec S2 32 := fun i => if (i 0).val = 0 then 0#32 else 1#32

theorem swap_entry : ∀ r : Fin 2, min (rowTable swapTable (entry r)).toInt.toNat 1 = (other r).val := by decide +kernel
theorem keep_entry : ∀ r : Fin 2, min (rowTable keepTable (entry r)).toInt.toNat 1 = r.val := by decide +kernel

theorem out_swap (x : FVec F S2x1024x1024 .f32) (j : S2x1024x1024.Idx) :
    out x swapTable j = x (Function.update j 0 (other (j 0))) := gather_at x _ j _ (swap_entry (j 0))

theorem out_keep (x : FVec F S2x1024x1024 .f32) : out x keepTable = x := by
  funext j
  refine (gather_at x _ j (j 0) (keep_entry (j 0))).trans ?_
  rw [Function.update_eq_self]

end Cert.ReferenceProof

end
-- ==== Proof.Agree.lean ====
/- The kernel at exact arithmetic and the reference end with the same array, cut in blocks: each device
   ends with its block of what the reference computes from the whole. -/
module

public import proofs.«01_k».proof.Proof.Reference
public import proofs.«01_k».proof.Proof.Tables
public import proofs.«01_k».proof.Proof.KernelIdealRun
public import proofs.«01_k».proof.Proof.KernelIdealKept

@[expose] public section

noncomputable section

namespace Cert.Agree

open Idealize.ShloMosaic Idealize.SL.Sem
open Cert.KernelIdealProof (Done W Swaps xLoc run_swapped)
open Cert.KernelIdealKept (Keeps run_kept)
open Cert.ReferenceProof (out swapTable keepTable out_swap out_keep other)

/-- One device's block, and the whole. -/
abbrev B : Shape := ⟨3, ![1, 1024, 1024]⟩
abbrev T : Shape := ⟨3, ![2, 1024, 1024]⟩

/-- Device `c`'s block of a whole array. -/
abbrev blk {α : Type} (c : Fin 8) (v : T.Idx → α) : B.Idx → α :=
  Layout.blockN B T (Layout.meshBlock [2, 2, 2] ![[0], [], []] c) v

/-- Where element `i` of device `c`'s block is in the whole. -/
abbrev at_ (c : Fin 8) (i : B.Idx) : T.Idx :=
  Layout.TilesN.idx (S := B) (T := T) (by decide) (Layout.meshBlock [2, 2, 2] ![[0], [], []] c) i

theorem block_row : ∀ c : Fin 8, Layout.meshLin [2, 2, 2] c.val [0] = c.val / 4 := by decide

/-- The devices of the first half hold the first row, those of the second the second. -/
theorem at_row (c : Fin 8) (i : B.Idx) : (at_ c i 0).val = c.val / 4 := by
  have h : (i 0).val < 1 := (i 0).isLt
  show Layout.meshLin [2, 2, 2] c.val [0] * 1 + (i 0).val = c.val / 4
  rw [block_row]; omega

theorem other_val : ∀ r : Fin 2, (other r).val = 1 - r.val := by decide

/-- Swapping the rows takes an element of device `c`'s block to the same element of a device's in the
    other half. -/
theorem at_swap (c s : Fin 8) (hs : s.val / 4 = 1 - c.val / 4) (i : B.Idx) :
    Function.update (at_ c i) 0 (other (at_ c i 0)) = at_ s i := by
  funext a
  fin_cases a
  · apply Fin.ext
    refine (other_val (at_ c i 0)).trans ?_
    rw [show (show Fin 2 from at_ c i 0).val = c.val / 4 from at_row c i]
    exact (hs.symm.trans (at_row s i).symm)
  · rfl
  · rfl

variable (m : (ℓ : Loc KernelIdeal.nD KernelIdeal.τ KernelIdeal.sig) → Buf (Elt Ideal) ℓ)

/-- With the rows swapped. -/
theorem swapped_blocks (x : FVec Ideal T .f32) (hx : ∀ c, m (xLoc c) = blk c x) (c : Fin 8) :
    W m c = blk c (out x swapTable) := by
  funext i
  show m (xLoc _) i = out x swapTable (at_ c i)
  rw [hx, out_swap, at_swap c _ (Mesh.srcDev_x c _) i]
  rfl

/-- With the rows kept. -/
theorem kept_blocks (x : FVec Ideal T .f32) (hx : ∀ c, m (xLoc c) = blk c x) (c : Fin 8) :
    m (xLoc c) = blk c (out x keepTable) := by
  rw [out_keep, hx]

theorem swapped (hP : Pre_swapped_Kernel.Facts := Pre_swapped_Kernel.Gen.facts) :
    algebraic_KernelIdeal_ReferenceIdeal (hKernelIdeal := KernelIdeal.Gen.facts) (hReferenceIdeal := ReferenceIdeal.Gen.facts)
      (hPre_swapped_Kernel := hP) := by
  intro m g m' g' hpre hin
  have hT : ∀ c, Swaps m c := fun c => Tables.swapped_table (hpre c)
  have ht : m' (((0 : Dev ReferenceIdeal.nD).tc : Thread ReferenceIdeal.nD ReferenceIdeal.τ).loc ReferenceIdeal.main_arg1) = swapTable :=
    ((hin 0).2).symm.trans (hT 0)
  refine ⟨out (F := Ideal) (m' (((0 : Dev ReferenceIdeal.nD).tc : Thread ReferenceIdeal.nD ReferenceIdeal.τ).loc ReferenceIdeal.main_arg0)) swapTable, ?_, ?_⟩
  · exact (θ_run _ _ _).mono
      (fun r h c => ⟨((h.1 c).1).trans (swapped_blocks m _ (fun c => (hin c).1) c), (h.1 c).2⟩) (run_swapped m g hT)
  · exact (θ_run _ _ _).mono (fun r h => ⟨((h.1 0).1).trans (congrArg _ ht), (h.1 0).2⟩) (ReferenceProof.run m' g')

theorem kept (hP : Pre_kept_Kernel.Facts := Pre_kept_Kernel.Gen.facts) :
    algebraic_KernelIdeal_ReferenceIdeal_pre_kept_Kernel (hKernelIdeal := KernelIdeal.Gen.facts)
      (hReferenceIdeal := ReferenceIdeal.Gen.facts) (hPre_kept_Kernel := hP) := by
  intro m g m' g' hpre hin
  have hT : ∀ c, Keeps m c := fun c => Tables.kept_table (hpre c)
  have ht : m' (((0 : Dev ReferenceIdeal.nD).tc : Thread ReferenceIdeal.nD ReferenceIdeal.τ).loc ReferenceIdeal.main_arg1) = keepTable :=
    ((hin 0).2).symm.trans (hT 0)
  refine ⟨out (F := Ideal) (m' (((0 : Dev ReferenceIdeal.nD).tc : Thread ReferenceIdeal.nD ReferenceIdeal.τ).loc ReferenceIdeal.main_arg0)) keepTable, ?_, ?_⟩
  · exact (θ_run _ _ _).mono
      (fun r h c => ⟨((h.1 c).1).trans (kept_blocks m _ (fun c => (hin c).1) c), (h.1 c).2⟩) (run_kept m g hT)
  · exact (θ_run _ _ _).mono (fun r h => ⟨((h.1 0).1).trans (congrArg _ ht), (h.1 0).2⟩) (ReferenceProof.run m' g')

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_swapped_Kernel
public import proofs.«01_k».proof.Proof.Gen.Pre_kept_Kernel
public import proofs.«01_k».proof.Proof.Gen.Pre_swapped_ReferenceIdeal
public import proofs.«01_k».proof.Proof.Gen.Pre_kept_ReferenceIdeal
public import proofs.«01_k».proof.Proof.Tables
public import proofs.«01_k».proof.Proof.KernelRun
public import proofs.«01_k».proof.Proof.KernelKept
public import proofs.«01_k».proof.Proof.KernelIdealRun
public import proofs.«01_k».proof.Proof.KernelIdealKept
public import proofs.«01_k».proof.Proof.Reference
public import proofs.«01_k».proof.Proof.Agree
public import Idealize.ShloMosaic.Adequacy
public import Idealize.ShloMosaic.Init

@[expose] public section

noncomputable section

namespace Cert.Proof

open Idealize.ShloMosaic Idealize.SL.Sem Cert.Kernel

/-! Each frame is the run with what it says of the result left out. -/

theorem kernel_swapped : quiescent_Kernel (hKernel := Cert.Kernel.Gen.facts) (hPre_swapped_Kernel := Cert.Pre_swapped_Kernel.Gen.facts) :=
  fun m g h => (θ_run _ _ _).mono (fun _ hr => ⟨fun c => (hr.1 c).2, hr.2⟩)
    (Cert.KernelProof.run_swapped m g fun c => Cert.Tables.swapped_table (h c))

theorem kernel_kept : quiescent_Kernel_pre_kept_Kernel (hKernel := Cert.Kernel.Gen.facts) (hPre_kept_Kernel := Cert.Pre_kept_Kernel.Gen.facts) :=
  fun m g h => (θ_run _ _ _).mono (fun _ hr => ⟨fun c => (hr.1 c).2, hr.2⟩)
    (Cert.KernelKept.run_kept m g fun c => Cert.Tables.kept_table (h c))

theorem ideal_swapped : quiescent_KernelIdeal (hKernelIdeal := Cert.KernelIdeal.Gen.facts) (hPre_swapped_Kernel := Cert.Pre_swapped_Kernel.Gen.facts) :=
  fun m g h => (θ_run _ _ _).mono (fun _ hr => ⟨fun c => (hr.1 c).2, hr.2⟩)
    (Cert.KernelIdealProof.run_swapped m g fun c => Cert.Tables.swapped_table (h c))

theorem ideal_kept : quiescent_KernelIdeal_pre_kept_Kernel (hKernelIdeal := Cert.KernelIdeal.Gen.facts) (hPre_kept_Kernel := Cert.Pre_kept_Kernel.Gen.facts) :=
  fun m g h => (θ_run _ _ _).mono (fun _ hr => ⟨fun c => (hr.1 c).2, hr.2⟩)
    (Cert.KernelIdealKept.run_kept m g fun c => Cert.Tables.kept_table (h c))

/-- The reference leaves its arguments as they were whatever the table is. -/
theorem reference : quiescent_ReferenceIdeal (hReferenceIdeal := Cert.ReferenceIdeal.Gen.facts) :=
  fun m g _ => (θ_run _ _ _).mono (fun _ hr => ⟨fun c => (hr.1 c).2, hr.2⟩) (Cert.ReferenceProof.run m g)

theorem claim : Cert.Claim := ⟨Cert.Kernel.Gen.facts, Cert.KernelIdeal.Gen.facts, Cert.ReferenceIdeal.Gen.facts, Cert.Pre_swapped_Kernel.Gen.facts, Cert.Pre_kept_Kernel.Gen.facts, Cert.Pre_swapped_ReferenceIdeal.Gen.facts, Cert.Pre_kept_ReferenceIdeal.Gen.facts,
  kernel_swapped, kernel_kept, ideal_swapped, ideal_kept, reference, fun m g _ => reference m g trivial, fun m g _ => reference m g trivial,
  trivial, Cert.Agree.swapped, Cert.Agree.kept⟩

end Cert.Proof

end
